-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_history [hPre_finite_history : Cert.Pre_finite_history.Facts] (m : (ℓ : Loc Cert.KernelIdeal.nD Cert.KernelIdeal.τ Cert.KernelIdeal.sig) → Buf (Elt Ideal) ℓ) : Prop :=
  ∀ c : Dev Cert.KernelIdeal.nD,
    (Cert.Pre_finite_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_history [hPre_finite_history : Cert.Pre_finite_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_history [hKernelIdeal : Cert.KernelIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_history [hReferenceIdeal : Cert.ReferenceIdeal.Facts] [hPre_finite_history : Cert.Pre_finite_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_history [hKernelIdeal : Cert.KernelIdeal.Facts] [hReferenceIdeal : Cert.ReferenceIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v3_2)) (v6 : (c : Dev Cert.KernelIdeal.nD) → Buf (Elt Ideal) ((c.tc : Thread Cert.KernelIdeal.nD Cert.KernelIdeal.τ).loc Cert.KernelIdeal.main_v11)) (v7 : (c : Dev Cert.KernelIdeal.nD) → Buf (Elt Ideal) ((c.tc : Thread Cert.KernelIdeal.nD Cert.KernelIdeal.τ).loc Cert.KernelIdeal.main_v12)) (v8 : (c : Dev Cert.KernelIdeal.nD) → Buf (Elt Ideal) ((c.tc : Thread Cert.KernelIdeal.nD Cert.KernelIdeal.τ).loc Cert.KernelIdeal.main_v14)) (v9 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v3_2) = v5 c
          ∧ r.2.mem ((c.tc : Thread Cert.KernelIdeal.nD Cert.KernelIdeal.τ).loc Cert.KernelIdeal.main_v11) = v6 c
          ∧ r.2.mem ((c.tc : Thread Cert.KernelIdeal.nD Cert.KernelIdeal.τ).loc Cert.KernelIdeal.main_v12) = v7 c
          ∧ r.2.mem ((c.tc : Thread Cert.KernelIdeal.nD Cert.KernelIdeal.τ).loc Cert.KernelIdeal.main_v14) = v8 c
          ∧ r.2.mem ((c.tc : Thread Cert.KernelIdeal.nD Cert.KernelIdeal.τ).loc Cert.KernelIdeal.main_v4_1) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v23) = v6 c
          ∧ r.2.mem ((c.tc : Thread Cert.ReferenceIdeal.nD Cert.ReferenceIdeal.τ).loc Cert.ReferenceIdeal.main_v24) = v7 c
          ∧ r.2.mem ((c.tc : Thread Cert.ReferenceIdeal.nD Cert.ReferenceIdeal.τ).loc Cert.ReferenceIdeal.main_v25) = v8 c
          ∧ r.2.mem ((c.tc : Thread Cert.ReferenceIdeal.nD Cert.ReferenceIdeal.τ).loc Cert.ReferenceIdeal.main_v18) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_history : Cert.Pre_finite_history.Facts),
    quiescent_Kernel (hKernel := hKernel)
    ∧ quiescent_KernelIdeal (hKernelIdeal := hKernelIdeal)
    ∧ quiescent_KernelIdeal_pre_finite_history (hKernelIdeal := hKernelIdeal) (hPre_finite_history := hPre_finite_history)
    ∧ quiescent_ReferenceIdeal (hReferenceIdeal := hReferenceIdeal)
    ∧ quiescent_ReferenceIdeal_pre_finite_history (hReferenceIdeal := hReferenceIdeal) (hPre_finite_history := hPre_finite_history)
    ∧ preserves_Kernel_KernelIdeal
    ∧ algebraic_KernelIdeal_ReferenceIdeal_pre_finite_history (hKernelIdeal := hKernelIdeal) (hReferenceIdeal := hReferenceIdeal) (hPre_finite_history := hPre_finite_history)
-- ==== Pre_finite_history.lean ====
abbrev S3x1024x7168 : Shape := ⟨3, ![3, 1024, 7168]⟩
abbrev S9216x7168 : Shape := ⟨2, ![9216, 7168]⟩
abbrev S3x1024x9216 : Shape := ⟨3, ![3, 1024, 9216]⟩
abbrev S3x16 : Shape := ⟨2, ![3, 16]⟩
abbrev S_ : Shape := ⟨0, ![]⟩

class Facts : Prop where
  bcast_S_S3x16 : S_.BroadcastsInDim S3x16 (![] : Fin 0 → Fin S3x16.rank)

variable [Facts]

def fn {F : FTy → Type} [FloatOps F] (main_arg0 : FVec F S3x1024x7168 .bf16) (main_arg1 : FVec F S9216x7168 .bf16) (main_arg2 : FVec F S3x1024x9216 .bf16) (main_arg3 : FVec F S3x16 .f32) : IVec S3x16 1 :=
  let main_v0 : FVec F S3x16 .f32 := Host.absf main_arg3
  let main_cst : FVec F S_ .f32 := constant S_ .f32 0x7F7FFFFF#32
  let main_v1 : FVec F S3x16 .f32 := broadcastInDim S3x16 ![] bcast_S_S3x16 main_cst
  let main_v2 : IVec S3x16 1 := cmpf .ole main_v0 main_v1
  main_v2
-- ==== Kernel.lean ====
abbrev S3x1024x7168 : Shape := ⟨3, ![3, 1024, 7168]⟩
abbrev S9216x7168 : Shape := ⟨2, ![9216, 7168]⟩
abbrev S3x1024x9216 : Shape := ⟨3, ![3, 1024, 9216]⟩
abbrev S3x16 : Shape := ⟨2, ![3, 16]⟩
abbrev S3072x7168 : Shape := ⟨2, ![3072, 7168]⟩
abbrev S3072x9216 : Shape := ⟨2, ![3072, 9216]⟩
abbrev S16x128 : Shape := ⟨2, ![16, 128]⟩
abbrev S256x7168 : Shape := ⟨2, ![256, 7168]⟩
abbrev S1x16 : Shape := ⟨2, ![1, 16]⟩
abbrev S1 : Shape := ⟨1, ![1]⟩
abbrev S1x1 : Shape := ⟨2, ![1, 1]⟩
abbrev S1x255 : Shape := ⟨2, ![1, 255]⟩
abbrev S256x128 : Shape := ⟨2, ![256, 128]⟩
abbrev S16x16x128 : Shape := ⟨3, ![16, 16, 128]⟩
abbrev S3072x256 : Shape := ⟨2, ![3072, 256]⟩
abbrev S3072x128 : Shape := ⟨2, ![3072, 128]⟩
abbrev S192x16x128 : Shape := ⟨3, ![192, 16, 128]⟩
abbrev S3x128 : Shape := ⟨2, ![3, 128]⟩
abbrev S9216x512 : Shape := ⟨2, ![9216, 512]⟩
abbrev S3072x512 : Shape := ⟨2, ![3072, 512]⟩
abbrev S128 : Shape := ⟨1, ![128]⟩
abbrev S1x128 : Shape := ⟨2, ![1, 128]⟩
abbrev S1x15 : Shape := ⟨2, ![1, 15]⟩
abbrev S_ : Shape := ⟨0, ![]⟩

abbrev nBuf : Space → Nat
  | .hbm => 27
  | .vmem => 33
  | .smem => 0
  | _ => 0

abbrev bufTy : (tb : Table) → Fin (tcTables nBuf tb) → BufTy
  | .hbm, ⟨0, _⟩ => ⟨S3x1024x7168, .bf16⟩
  | .hbm, ⟨1, _⟩ => ⟨S9216x7168, .bf16⟩
  | .hbm, ⟨2, _⟩ => ⟨S3x1024x9216, .bf16⟩
  | .hbm, ⟨3, _⟩ => ⟨S3x16, .f32⟩
  | .hbm, ⟨4, _⟩ => ⟨S3072x7168, .bf16⟩
  | .hbm, ⟨5, _⟩ => ⟨S3072x9216, .bf16⟩
  | .hbm, ⟨6, _⟩ => ⟨S3072x7168, .fp8e4m3⟩
  | .hbm, ⟨7, _⟩ => ⟨S16x128, .bf16⟩
  | .hbm, ⟨8, _⟩ => ⟨S3072x9216, .bf16⟩
  | .hbm, ⟨9, _⟩ => ⟨S9216x7168, .f32⟩
  | .hbm, ⟨10, _⟩ => ⟨S9216x7168, .fp8e4m3⟩
  | .hbm, ⟨11, _⟩ => ⟨S3072x9216, .fp8e5m2⟩
  | .hbm, ⟨12, _⟩ => ⟨S16x128, .bf16⟩
  | .hbm, ⟨13, _⟩ => ⟨S16x128, .bf16⟩
  | .hbm, ⟨14, _⟩ => ⟨S3072x7168, .bf16⟩
  | .hbm, ⟨15, _⟩ => ⟨S3x16, .f32⟩
  | .hbm, ⟨16, _⟩ => ⟨S3x128, .f32⟩
  | .hbm, ⟨17, _⟩ => ⟨S3x1024x9216, .bf16⟩
  | .hbm, ⟨18, _⟩ => ⟨S3x1024x7168, .bf16⟩
  | .hbm, ⟨19, _⟩ => ⟨S3x1024x7168, .fp8e4m3⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S3x1024x9216, .fp8e5m2⟩
  | .hbm, ⟨25, _⟩ => ⟨S1x1, .f32⟩
  | .hbm, ⟨26, _⟩ => ⟨S_, .f32⟩
  | .local _ .vmem, ⟨0, _⟩ => ⟨S3x16, .f32⟩
  | .local _ .vmem, ⟨1, _⟩ => ⟨S256x7168, .bf16⟩
  | .local _ .vmem, ⟨2, _⟩ => ⟨S256x7168, .bf16⟩
  | .local _ .vmem, ⟨3, _⟩ => ⟨S256x7168, .fp8e4m3⟩
  | .local _ .vmem, ⟨4, _⟩ => ⟨S256x7168, .fp8e4m3⟩
  | .local _ .vmem, ⟨5, _⟩ => ⟨S16x128, .bf16⟩
  | .local _ .vmem, ⟨6, _⟩ => ⟨S3x16, .f32⟩
  | .local _ .vmem, ⟨7, _⟩ => ⟨S3072x7168, .fp8e4m3⟩
  | .local _ .vmem, ⟨8, _⟩ => ⟨S256x7168, .bf16⟩
  | .local _ .vmem, ⟨9, _⟩ => ⟨S256x7168, .bf16⟩
  | .local _ .vmem, ⟨10, _⟩ => ⟨S3072x256, .bf16⟩
  | .local _ .vmem, ⟨11, _⟩ => ⟨S3072x256, .bf16⟩
  | .local _ .vmem, ⟨12, _⟩ => ⟨S3072x256, .bf16⟩
  | .local _ .vmem, ⟨13, _⟩ => ⟨S3072x256, .bf16⟩
  | .local _ .vmem, ⟨14, _⟩ => ⟨S256x7168, .f32⟩
  | .local _ .vmem, ⟨15, _⟩ => ⟨S256x7168, .f32⟩
  | .local _ .vmem, ⟨16, _⟩ => ⟨S256x7168, .fp8e4m3⟩
  | .local _ .vmem, ⟨17, _⟩ => ⟨S256x7168, .fp8e4m3⟩
  | .local _ .vmem, ⟨18, _⟩ => ⟨S3072x256, .fp8e5m2⟩
  | .local _ .vmem, ⟨19, _⟩ => ⟨S3072x256, .fp8e5m2⟩
  | .local _ .vmem, ⟨20, _⟩ => ⟨S16x128, .bf16⟩
  | .local _ .vmem, ⟨21, _⟩ => ⟨S16x128, .bf16⟩
  | .local _ .vmem, ⟨22, _⟩ => ⟨S3x16, .f32⟩
  | .local _ .vmem, ⟨23, _⟩ => ⟨S16x128, .bf16⟩
  | .local _ .vmem, ⟨24, _⟩ => ⟨S16x128, .bf16⟩
  | .local _ .vmem, ⟨25, _⟩ => ⟨S16x128, .bf16⟩
  | .local _ .vmem, ⟨26, _⟩ => ⟨S3072x9216, .fp8e5m2⟩
  | .local _ .vmem, ⟨27, _⟩ => ⟨S9216x512, .fp8e4m3⟩
  | .local _ .vmem, ⟨28, _⟩ => ⟨S9216x512, .fp8e4m3⟩
  | .local _ .vmem, ⟨29, _⟩ => ⟨S3072x512, .bf16⟩
  | .local _ .vmem, ⟨30, _⟩ => ⟨S3072x512, .bf16⟩
  | .local _ .vmem, ⟨31, _⟩ => ⟨S3x16, .f32⟩
  | .local _ .vmem, ⟨32, _⟩ => ⟨S3x128, .f32⟩
  | _, _ => ⟨S3x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg8_0 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc2_sem7_0 : DmaSem sig := 31
abbrev cc2_sem8_0 : DmaSem sig := 32

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![36], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S3x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3072x7168 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x7168 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3072x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3072x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x7168 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x7168 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3072x256 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S16x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![14], ![false]⟩

def k2_cond1 (i : grid2.Coords) : BitVec 1 :=
  let arg0 : BitVec 32 := BitVec.ofNat 32 (i 0).val
  let c0_i32_36 : BitVec 32 := 0#32
  let v103 : BitVec 1 := Scalar.cmpi .eq arg0 c0_i32_36
  let v104 : BitVec 32 := Scalar.extui v103
  let c0_i32_37 : BitVec 32 := 0#32
  let v105 : BitVec 1 := Scalar.cmpi .ne v104 c0_i32_37
  v105

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S3x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3072x9216 .fp8e5m2 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S9216x512 .fp8e4m3 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S3072x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S3x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S3x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]
-- ==== ReferenceIdeal.lean ====
abbrev S3x1024x7168 : Shape := ⟨3, ![3, 1024, 7168]⟩
abbrev S9216x7168 : Shape := ⟨2, ![9216, 7168]⟩
abbrev S3x1024x9216 : Shape := ⟨3, ![3, 1024, 9216]⟩
abbrev S3x16 : Shape := ⟨2, ![3, 16]⟩
abbrev S3072x7168 : Shape := ⟨2, ![3072, 7168]⟩
abbrev S3072x9216 : Shape := ⟨2, ![3072, 9216]⟩
abbrev S1x1 : Shape := ⟨2, ![1, 1]⟩
abbrev S1x16 : Shape := ⟨2, ![1, 16]⟩
abbrev S1x1x16 : Shape := ⟨3, ![1, 1, 16]⟩
abbrev S1 : Shape := ⟨1, ![1]⟩
abbrev S1x1x1 : Shape := ⟨3, ![1, 1, 1]⟩
abbrev S_ : Shape := ⟨0, ![]⟩
abbrev S3 : Shape := ⟨1, ![3]⟩
abbrev S3x1 : Shape := ⟨2, ![3, 1]⟩
abbrev S3x15 : Shape := ⟨2, ![3, 15]⟩

abbrev nBuf : Space → Nat
  | .hbm => 41
  | .vmem => 13
  | .smem => 0
  | _ => 0

abbrev bufTy : (tb : Table) → Fin (tcTables nBuf tb) → BufTy
  | .hbm, ⟨0, _⟩ => ⟨S3x1024x7168, .bf16⟩
  | .hbm, ⟨1, _⟩ => ⟨S9216x7168, .bf16⟩
  | .hbm, ⟨2, _⟩ => ⟨S3x1024x9216, .bf16⟩
  | .hbm, ⟨3, _⟩ => ⟨S3x16, .f32⟩
  | .hbm, ⟨4, _⟩ => ⟨S3072x7168, .bf16⟩
  | .hbm, ⟨5, _⟩ => ⟨S3072x9216, .bf16⟩
  | .hbm, ⟨6, _⟩ => ⟨S3072x9216, .bf16⟩
  | .hbm, ⟨7, _⟩ => ⟨S3072x7168, .bf16⟩
  | .hbm, ⟨8, _⟩ => ⟨S9216x7168, .f32⟩
  | .hbm, ⟨9, _⟩ => ⟨S3072x7168, .fp8e4m3⟩
  | .hbm, ⟨10, _⟩ => ⟨S1x1, .f32⟩
  | .hbm, ⟨11, _⟩ => ⟨S9216x7168, .fp8e4m3⟩
  | .hbm, ⟨12, _⟩ => ⟨S1x1, .f32⟩
  | .hbm, ⟨13, _⟩ => ⟨S3072x9216, .fp8e5m2⟩
  | .hbm, ⟨14, _⟩ => ⟨S1x1, .f32⟩
  | .hbm, ⟨15, _⟩ => ⟨S3x1024x7168, .bf16⟩
  | .hbm, ⟨16, _⟩ => ⟨S_, .bf16⟩
  | .hbm, ⟨17, _⟩ => ⟨S_, .bf16⟩
  | .hbm, ⟨18, _⟩ => ⟨S_, .f32⟩
  | .hbm, ⟨19, _⟩ => ⟨S9216x7168, .bf16⟩
  | .hbm, ⟨20, _⟩ => ⟨S_, .bf16⟩
  | .hbm, ⟨21, _⟩ => ⟨S_, .bf16⟩
  | .hbm, ⟨22, _⟩ => ⟨S_, .f32⟩
  | .hbm, ⟨23, _⟩ => ⟨S3x1024x9216, .bf16⟩
  | .hbm, ⟨24, _⟩ => ⟨S_, .bf16⟩
  | .hbm, ⟨25, _⟩ => ⟨S_, .bf16⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1, .f32⟩
  | .hbm, ⟨30, _⟩ => ⟨S3, .f32⟩
  | .hbm, ⟨31, _⟩ => ⟨S3x1, .f32⟩
  | .hbm, ⟨32, _⟩ => ⟨S3x15, .f32⟩
  | .hbm, ⟨33, _⟩ => ⟨S3x16, .f32⟩
  | .hbm, ⟨34, _⟩ => ⟨S3x1024x9216, .bf16⟩
  | .hbm, ⟨35, _⟩ => ⟨S3x1024x7168, .bf16⟩
  | .hbm, ⟨36, _⟩ => ⟨S3x1024x7168, .fp8e4m3⟩
  | .hbm, ⟨37, _⟩ => ⟨S_, .f32⟩
  | .hbm, ⟨38, _⟩ => ⟨S_, .f32⟩
  | .hbm, ⟨39, _⟩ => ⟨S3x1024x9216, .fp8e5m2⟩
  | .hbm, ⟨40, _⟩ => ⟨S_, .f32⟩
  | .local _ .vmem, ⟨0, _⟩ => ⟨S3072x7168, .bf16⟩
  | .local _ .vmem, ⟨1, _⟩ => ⟨S9216x7168, .bf16⟩
  | .local _ .vmem, ⟨2, _⟩ => ⟨S3072x9216, .bf16⟩
  | .local _ .vmem, ⟨3, _⟩ => ⟨S3x16, .f32⟩
  | .local _ .vmem, ⟨4, _⟩ => ⟨S3072x9216, .bf16⟩
  | .local _ .vmem, ⟨5, _⟩ => ⟨S3072x7168, .bf16⟩
  | .local _ .vmem, ⟨6, _⟩ => ⟨S9216x7168, .f32⟩
  | .local _ .vmem, ⟨7, _⟩ => ⟨S3072x7168, .fp8e4m3⟩
  | .local _ .vmem, ⟨8, _⟩ => ⟨S1x1, .f32⟩
  | .local _ .vmem, ⟨9, _⟩ => ⟨S9216x7168, .fp8e4m3⟩
  | .local _ .vmem, ⟨10, _⟩ => ⟨S1x1, .f32⟩
  | .local _ .vmem, ⟨11, _⟩ => ⟨S3072x9216, .fp8e5m2⟩
  | .local _ .vmem, ⟨12, _⟩ => ⟨S1x1, .f32⟩
  | _, _ => ⟨S3x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev main_v2_8 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x9216 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9216x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x9216 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Kernel.Body0.lean ====
/- One grid point of the first kernel: the codes of a block of `x` and the running maximum of its magnitudes. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Tactic.Stretches

@[expose] public section

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinates. -/
abbrev cond (i : grid0.Coords) : Prop := (Scalar.cmpi .ne (Scalar.extui (Scalar.cmpi .eq (BitVec.ofNat 32 (i 0).val) 0#32)) 0#32) = 1#1

/-- It holds at the first point only. -/
theorem hcond : ∀ t : Fin cfg0.N, cond (grid0.coords t) ↔ t.val = 0 :=
  (fun t => by
    have ht : t.val < 12 := Nat.lt_of_lt_of_eq t.isLt N_0
    have e0 : (grid0.coords t 0).val = t.val / 1 % 12 := Pipeline.Grid.coords_val t 0 (by decide) rfl
    simp only [cond, e0]
    rw [show t.val = 0 ↔ t.val % 12 = 0 from by omega]
    word_cmp
   : ∀ t : Fin grid0.N, cond (grid0.coords t) ↔ t.val = 0)

/-- The codes of one block. -/
def codes (x0 : Vec F S3x16 .f32) (x1 : Vec F S256x7168 .bf16) : Vec F S256x7168 .fp8e4m3 :=
  k0_pay5 (k0_pay4 (View.ld x0 (Rect.unit (s := S3x16) ![0, 0] S1x16.size inb_S3x16_S1x16_0_0)) x1)
/-- The block's magnitudes reduced to the accumulator's shape. -/
def blockMax (x1 : Vec F S256x7168 .bf16) : Vec F S16x128 .bf16 :=
  k0_pay8 (k0_pay3 x1) (k0_pay7 (k0_pay3 x1) (k0_pay6 (k0_pay3 x1)))
/-- The running maximum after a block, started at zero where `p` holds. -/
def acc (p : Prop) [Decidable p] (x1 : Vec F S256x7168 .bf16) (x3 : Vec F S16x128 .bf16) : Vec F S16x128 .bf16 :=
  k0_pay2 (blockMax x1) (if p then k0_pay1 (F := F) else x3)

set_option maxHeartbeats 4000000 in
/-- The body: each output block at what it stores, the running values folded in. -/
theorem body (c : Dev nD) (i : grid0.Coords) (arg1 : Memref sig .tc .vmem S3x16 .f32) (harg1 : arg1.IsWhole) (arg2 : Memref sig .tc .vmem S256x7168 .bf16) (harg2 : arg2.IsWhole) (arg3 : Memref sig .tc .vmem S256x7168 .fp8e4m3) (harg3 : arg3.IsWhole) (arg4 : Memref sig .tc .vmem S16x128 .bf16) (harg4 : arg4.IsWhole)
    (x0 : Vec F S3x16 .f32) (x1 : Vec F S256x7168 .bf16) (x3 : Vec F S16x128 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3
        ∗ (iprop(owns (c : Thread nD τ) arg1 fullShare x0
          ∗ owns (c : Thread nD τ) arg2 fullShare x1
          ∗ owns (c : Thread nD τ) arg3 fullShare (codes x0 x1)
          ∗ owns (c : Thread nD τ) arg4 fullShare (acc (cond i) x1 x3)) -∗ K ⟨⟩))
      ⊢ wp frame (wpE (defs₀ (F := F)) Variants.none c none) E (cc0_quant_x i arg1 harg1 arg2 harg2 arg3 harg3 arg4 harg4) K := by
  simp only [cc0_quant_x_eq_skeleton]; unfold cc0_quant_x_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, ⟨%f3, %hf3, H3⟩, Hk⟩
  obtain rfl := harg1.eq_unread hf0; obtain rfl := harg2.eq_unread hf1; obtain rfl := harg4.eq_unread hf3
  have e1 : arg2.view.readAt (Elt F) (Rect.unit (s := S256x7168) ![0, 0] S256x7168.size inb_S256x7168_S256x7168_0_0).toLoadRect (harg2.unread x1) = x1 :=
    (View.readAt_full _ _ _).trans hf1
  have e3 : arg4.view.readAt (Elt F) (Rect.unit (s := S16x128) ![0, 0] ![16, 128] inb_S16x128_S16x128_0_0).toLoadRect (harg4.unread x3) = x3 :=
    (View.readAt_full _ _ _).trans hf3
  have c3 : ∀ p, arg4.view.readCov (Val := Elt F) [⟨Rect.unit (s := S16x128) ![0, 0] ![16, 128] inb_S16x128_S16x128_0_0, p⟩] (Rect.unit (s := S16x128) ![0, 0] ![16, 128] inb_S16x128_S16x128_0_0).toLoadRect = p :=
    fun p => View.readCov_full (s := S16x128) arg4.view _ _ p []
  by_cases hc0 : cond i
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro
      refine (View.read_writes_full ..).trans ?_
      sl_open_run
      simp only [View.readAt_eq_ld, hf0, e1, e3]
      rfl
    iexists _; isplitr; swap; · iexact H3
    ipureintro
    refine (View.read_writes_full ..).trans ?_
    sl_open_run
    unfold acc
    rw [if_pos hc0]
    (try simp only [e1, e3, c3]) <;> rfl
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro
      refine (View.read_writes_full ..).trans ?_
      sl_open_run
      simp only [View.readAt_eq_ld, hf0, e1, e3]
      rfl
    iexists _; isplitr; swap; · iexact H3
    ipureintro
    refine (View.read_writes_full ..).trans ?_
    sl_open_run
    unfold acc
    rw [if_neg hc0]
    (try simp only [e1, e3]) <;> rfl

end Cert.Kernel.R0

end
-- ==== Proof.Kernel.Dat0.lean ====
/- The first kernel's region: what its windows hold point by point, and the body's obligation. -/
module

public import proofs.«01_k».proof.Proof.Kernel.Body0

@[expose] public section

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first point. -/
abbrev t0 : Fin cfg0.N := ⟨0, by rw [show cfg0.N = 12 from N_0]; decide⟩

/-- The running maximum after the body at position `n`. -/
def accAt (c : Dev nD) : (n : ℕ) → n < cfg0.N → Vec F S16x128 .bf16
  | 0, hn => acc (cond (grid0.coords ⟨0, hn⟩)) (iblk W c 1 ⟨0, hn⟩) (k0_pay1 (F := F))
  | n + 1, hn => acc (cond (grid0.coords ⟨n + 1, hn⟩)) (iblk W c 1 ⟨n + 1, hn⟩) (accAt c n (Nat.lt_of_succ_lt hn))

theorem accAt_step (c : Dev nD) (t : Fin cfg0.N) (d : Vec F S16x128 .bf16)
    (h : t.val ≠ 0 → d = accAt W c (t.val - 1) (Nat.lt_of_le_of_lt (Nat.sub_le _ _) t.isLt)) :
    acc (cond (grid0.coords t)) (iblk W c 1 t) d = accAt W c t.val t.isLt := by
  obtain ⟨n, hn⟩ := t
  cases n with
  | zero =>
    have hc : cond (grid0.coords ⟨0, hn⟩) := (hcond ⟨0, hn⟩).mpr rfl
    unfold accAt acc
    rw [if_pos hc, if_pos hc]
  | succ n => rw [h (Nat.succ_ne_zero n)]; rfl

/-- The proof data: arrays as the region finds them; after the body each input's buffer at its block and each output's as the body leaves it; nothing owed; full shares. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => codes (iblk W c 0 t) (iblk W c 1 t)
    | ⟨3, _⟩ => accAt W c t.val t.isLt
  Φ _ := Pipeline.ΦA spec0 c
  q _ := fullShare
  owed _ := 0

theorem A_eq (c : Dev nD) (w : Fin cfg0.W) : (dat W c).A w = W c (Proc.devRef .tc (Pipeline.arrRef spec0 w)) := by
  dsimp only [dat]
theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = codes (iblk W c 0 t) (iblk W c 1 t) := by dsimp only [dat]
theorem after_3 (c : Dev nD) (t : Fin cfg0.N) : (dat W c).after 3 t = accAt W c t.val t.isLt := by dsimp only [dat]

/-- Each input's buffer holds its block at every point, fetched there or not. -/
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Past the first point a kept output's buffer holds what the point before left. -/
theorem before_3 (c : Dev nD) (t : Fin cfg0.N) (h0 : t.val ≠ 0) (d) : (dat W c).before 3 t d = accAt W c (t.val - 1) (Nat.lt_of_le_of_lt (Nat.sub_le _ _) t.isLt) := by
  have hN : t.val < 12 := lt_of_lt_of_eq t.isLt (show cfg0.N = 12 from N_0)
  rw [Dat.before_out_kept _ 3 rfl t (by omega) (Bool.eq_false_iff.mpr fun h => by have := (flush0_3 _).mp h; dsimp only at this; omega)
    (fun _ => rfl) (fun _ _ => rfl)]
  dsimp only [dat]

set_option maxHeartbeats 1600000 in
/-- The body at any point. -/
theorem sound_body (c : Dev nD) (t : Fin cfg0.N) :
    iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d)))
    ⊢ wp frame (wpE (defs₀ (F := F)) Variants.none c none) Set.univ (bodyAt0 t) (fun _ => iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t))) := by
  unfold bodyAt0
  simp only [before_0, before_1]
  rw [show (dat W c).Φ t.succ = (dat W c).Φ t.castSucc from rfl,
    show (dat W c).owesAt () t.succ = (dat W c).owesAt () t.castSucc from rfl,
    after_0, after_1, after_2, after_3]
  iintro ⟨HΦ, Ho, ⟨%d0, H0⟩, ⟨%d1, H1⟩, ⟨%d2, H2⟩, ⟨%d3, H3⟩⟩
  rw [← accAt_step W c t ((dat W c).before 3 t d3) (fun h => before_3 W c t h d3)]
  iapply (body c (grid0.coords t) _ _ _ _ _ _ _ _ (iblk W c 0 t) (iblk W c 1 t) ((dat W c).before 3 t d3) Set.univ _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.Kernel.R0

end
-- ==== Proof.Kernel.Body1.lean ====
/- One grid point of the second kernel: the codes of a block of the weight and of `dy`, their running maxima, and the block's two products. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Tactic.Stretches

@[expose] public section

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinates. -/
abbrev cond (i : grid1.Coords) : Prop := (Scalar.cmpi .ne (Scalar.extui (Scalar.cmpi .eq (BitVec.ofNat 32 (i 0).val) 0#32)) 0#32) = 1#1

/-- It holds at the first point only. -/
theorem hcond : ∀ t : Fin cfg1.N, cond (grid1.coords t) ↔ t.val = 0 :=
  (fun t => by
    have ht : t.val < 36 := Nat.lt_of_lt_of_eq t.isLt N_1
    have e0 : (grid1.coords t 0).val = t.val / 1 % 36 := Pipeline.Grid.coords_val t 0 (by decide) rfl
    simp only [cond, e0]
    rw [show t.val = 0 ↔ t.val % 36 = 0 from by omega]
    word_cmp
   : ∀ t : Fin grid1.N, cond (grid1.coords t) ↔ t.val = 0)

/-- The scale of `x`, and the scale and inverse of the weight's and of `dy`'s, from the history's rows. -/
def xScale (x0 : Vec F S3x16 .f32) : FVec F S1x1 .f32 := k1_pay2 (View.ld x0 (Rect.unit (s := S3x16) ![0, 0] S1x16.size inb_S3x16_S1x16_0_0))
def wScale (x0 : Vec F S3x16 .f32) : FVec F S1x1 .f32 := k1_pay6 (k1_pay3 (View.ld x0 (Rect.unit (s := S3x16) ![1, 0] S1x16.size inb_S3x16_S1x16_1_0))) (k1_pay4 (F := F)) (Scalar.ofBits .f32 0x3B124925#32)
def wInv (x0 : Vec F S3x16 .f32) : FVec F S1x1 .f32 := k1_pay7 (k1_pay3 (View.ld x0 (Rect.unit (s := S3x16) ![1, 0] S1x16.size inb_S3x16_S1x16_1_0))) (k1_pay4 (F := F)) (Scalar.ofBits .f32 0x3B124925#32)
def dyScale (x0 : Vec F S3x16 .f32) : FVec F S1x1 .f32 := k1_pay10 (k1_pay8 (View.ld x0 (Rect.unit (s := S3x16) ![2, 0] S1x16.size inb_S3x16_S1x16_2_0)))
def dyInv (x0 : Vec F S3x16 .f32) : FVec F S1x1 .f32 := k1_pay11 (k1_pay8 (View.ld x0 (Rect.unit (s := S3x16) ![2, 0] S1x16.size inb_S3x16_S1x16_2_0)))
/-- The codes of a block of the weight. -/
def wCodes (x0 : Vec F S3x16 .f32) (x2 : Vec F S256x7168 .bf16) : Vec F S256x7168 .fp8e4m3 := k1_pay20 (wInv x0) x2
/-- The codes of a block of `dy`. -/
def dyCodes (x0 : Vec F S3x16 .f32) (x3 : Vec F S3072x256 .bf16) : Vec F S3072x256 .fp8e5m2 := k1_pay25 (dyInv x0) (k1_pay21 x3)
/-- The block's columns of `y`. -/
def yBlock (x0 : Vec F S3x16 .f32) (x1 : Vec F S3072x7168 .fp8e4m3) (x2 : Vec F S256x7168 .bf16) : Vec F S3072x256 .bf16 :=
  k1_pay26 (xScale x0) (wScale x0) x1 (wCodes x0 x2)
/-- The block's rows of the weight's gradient. -/
def dwBlock (x0 : Vec F S3x16 .f32) (x1 : Vec F S3072x7168 .fp8e4m3) (x3 : Vec F S3072x256 .bf16) : Vec F S256x7168 .f32 :=
  k1_pay1 (xScale x0) (dyScale x0) (k1_pay27 (dyCodes x0 x3) x1)
/-- The running maximum of the weight's magnitudes after a block, started at zero where `p` holds. -/
def wAcc (p : Prop) [Decidable p] (x2 : Vec F S256x7168 .bf16) (x8 : Vec F S16x128 .bf16) : Vec F S16x128 .bf16 :=
  k1_pay19 x2 (k1_pay16 x2 (k1_pay14 x2 (k1_pay12 x2) (k1_pay13 x2)) (k1_pay15 x2)) (k1_pay17 x2) (if p then k1_pay18 (F := F) else x8)
/-- The running maximum of `dy`'s magnitudes after a block, started at zero where `p` holds. -/
def dyAcc (p : Prop) [Decidable p] (x3 : Vec F S3072x256 .bf16) (x9 : Vec F S16x128 .bf16) : Vec F S16x128 .bf16 :=
  k1_pay24 (k1_pay22 x3) (if p then k1_pay23 (F := F) else x9)

set_option maxHeartbeats 4000000 in
/-- The body: each output block at what it stores, the running values folded in. -/
theorem body (c : Dev nD) (i : grid1.Coords) (arg1 : Memref sig .tc .vmem S3x16 .f32) (harg1 : arg1.IsWhole) (arg2 : Memref sig .tc .vmem S3072x7168 .fp8e4m3) (harg2 : arg2.IsWhole) (arg3 : Memref sig .tc .vmem S256x7168 .bf16) (harg3 : arg3.IsWhole) (arg4 : Memref sig .tc .vmem S3072x256 .bf16) (harg4 : arg4.IsWhole) (arg5 : Memref sig .tc .vmem S3072x256 .bf16) (harg5 : arg5.IsWhole) (arg6 : Memref sig .tc .vmem S256x7168 .f32) (harg6 : arg6.IsWhole) (arg7 : Memref sig .tc .vmem S256x7168 .fp8e4m3) (harg7 : arg7.IsWhole) (arg8 : Memref sig .tc .vmem S3072x256 .fp8e5m2) (harg8 : arg8.IsWhole) (arg9 : Memref sig .tc .vmem S16x128 .bf16) (harg9 : arg9.IsWhole) (arg10 : Memref sig .tc .vmem S16x128 .bf16) (harg10 : arg10.IsWhole)
    (x0 : Vec F S3x16 .f32) (x1 : Vec F S3072x7168 .fp8e4m3) (x2 : Vec F S256x7168 .bf16) (x3 : Vec F S3072x256 .bf16) (x8 : Vec F S16x128 .bf16) (x9 : Vec F S16x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x8 ∗ owns (c : Thread nD τ) arg10 fullShare x9
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare (yBlock x0 x1 x2)
          ∗ owns (c : Thread nD τ) arg6 fullShare (dwBlock x0 x1 x3)
          ∗ owns (c : Thread nD τ) arg7 fullShare (wCodes x0 x2)
          ∗ owns (c : Thread nD τ) arg8 fullShare (dyCodes x0 x3)
          ∗ owns (c : Thread nD τ) arg9 fullShare (wAcc (cond i) x2 x8)
          ∗ owns (c : Thread nD τ) arg10 fullShare (dyAcc (cond i) x3 x9)) -∗ K ⟨⟩))
      ⊢ wp frame (wpE (defs₀ (F := F)) Variants.none c none) E (cc1_y_dw i arg1 harg1 arg2 harg2 arg3 harg3 arg4 harg4 arg5 harg5 arg6 harg6 arg7 harg7 arg8 harg8 arg9 harg9 arg10 harg10) K := by
  simp only [cc1_y_dw_eq_skeleton]; unfold cc1_y_dw_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg9.eq_unread hf8; obtain rfl := harg10.eq_unread hf9
  have e1 : arg2.view.readAt (Elt F) (Rect.unit (s := S3072x7168) ![0, 0] S3072x7168.size inb_S3072x7168_S3072x7168_0_0).toLoadRect (harg2.unread x1) = x1 :=
    (View.readAt_full _ _ _).trans hf1
  have e2 : arg3.view.readAt (Elt F) (Rect.unit (s := S256x7168) ![0, 0] S256x7168.size inb_S256x7168_S256x7168_0_0).toLoadRect (harg3.unread x2) = x2 :=
    (View.readAt_full _ _ _).trans hf2
  have e3 : arg4.view.readAt (Elt F) (Rect.unit (s := S3072x256) ![0, 0] S3072x256.size inb_S3072x256_S3072x256_0_0).toLoadRect (harg4.unread x3) = x3 :=
    (View.readAt_full _ _ _).trans hf3
  have e8 : arg9.view.readAt (Elt F) (Rect.unit (s := S16x128) ![0, 0] ![16, 128] inb_S16x128_S16x128_0_0).toLoadRect (harg9.unread x8) = x8 :=
    (View.readAt_full _ _ _).trans hf8
  have e9 : arg10.view.readAt (Elt F) (Rect.unit (s := S16x128) ![0, 0] ![16, 128] inb_S16x128_S16x128_0_0).toLoadRect (harg10.unread x9) = x9 :=
    (View.readAt_full _ _ _).trans hf9
  have c6 : ∀ p, arg7.view.readCov (Val := Elt F) [⟨Rect.unit (s := S256x7168) ![0, 0] ![256, 7168] inb_S256x7168_S256x7168_0_0, p⟩] (Rect.unit (s := S256x7168) ![0, 0] ![256, 7168] inb_S256x7168_S256x7168_0_0).toLoadRect = p :=
    fun p => View.readCov_full (s := S256x7168) arg7.view _ _ p []
  have c7 : ∀ p, arg8.view.readCov (Val := Elt F) [⟨Rect.unit (s := S3072x256) ![0, 0] ![3072, 256] inb_S3072x256_S3072x256_0_0, p⟩] (Rect.unit (s := S3072x256) ![0, 0] ![3072, 256] inb_S3072x256_S3072x256_0_0).toLoadRect = p :=
    fun p => View.readCov_full (s := S3072x256) arg8.view _ _ p []
  have c8 : ∀ p, arg9.view.readCov (Val := Elt F) [⟨Rect.unit (s := S16x128) ![0, 0] ![16, 128] inb_S16x128_S16x128_0_0, p⟩] (Rect.unit (s := S16x128) ![0, 0] ![16, 128] inb_S16x128_S16x128_0_0).toLoadRect = p :=
    fun p => View.readCov_full (s := S16x128) arg9.view _ _ p []
  have c9 : ∀ p, arg10.view.readCov (Val := Elt F) [⟨Rect.unit (s := S16x128) ![0, 0] ![16, 128] inb_S16x128_S16x128_0_0, p⟩] (Rect.unit (s := S16x128) ![0, 0] ![16, 128] inb_S16x128_S16x128_0_0).toLoadRect = p :=
    fun p => View.readCov_full (s := S16x128) arg10.view _ _ p []
  by_cases hc0 : cond i
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      refine (View.read_writes_full ..).trans ?_
      sl_open_run
      simp only [View.readAt_eq_ld, hf0, e1, e2, e3, e8, e9, c6, c7]
      rfl
    isplitl [H5]
    · iexists _; isplitr; swap; · iexact H5
      ipureintro
      refine (View.read_writes_full ..).trans ?_
      sl_open_run
      simp only [View.readAt_eq_ld, hf0, e1, e2, e3, e8, e9, c6, c7]
      rfl
    isplitl [H6]
    · iexists _; isplitr; swap; · iexact H6
      ipureintro
      refine (View.read_writes_full ..).trans ?_
      sl_open_run
      simp only [View.readAt_eq_ld, hf0, e1, e2, e3, e8, e9, c6, c7]
      rfl
    isplitl [H7]
    · iexists _; isplitr; swap; · iexact H7
      ipureintro
      refine (View.read_writes_full ..).trans ?_
      sl_open_run
      simp only [View.readAt_eq_ld, hf0, e1, e2, e3, e8, e9, c6, c7]
      rfl
    isplitl [H8]
    · iexists _; isplitr; swap; · iexact H8
      ipureintro
      refine (View.read_writes_full ..).trans ?_
      sl_open_run
      unfold wAcc
      rw [if_pos hc0]
    iexists _; isplitr; swap; · iexact H9
    ipureintro
    refine (View.read_writes_full ..).trans ?_
    sl_open_run
    unfold dyAcc
    rw [if_pos hc0]
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      refine (View.read_writes_full ..).trans ?_
      sl_open_run
      simp only [View.readAt_eq_ld, hf0, e1, e2, e3, e8, e9, c6, c7]
      rfl
    isplitl [H5]
    · iexists _; isplitr; swap; · iexact H5
      ipureintro
      refine (View.read_writes_full ..).trans ?_
      sl_open_run
      simp only [View.readAt_eq_ld, hf0, e1, e2, e3, e8, e9, c6, c7]
      rfl
    isplitl [H6]
    · iexists _; isplitr; swap; · iexact H6
      ipureintro
      refine (View.read_writes_full ..).trans ?_
      sl_open_run
      simp only [View.readAt_eq_ld, hf0, e1, e2, e3, e8, e9, c6, c7]
      rfl
    isplitl [H7]
    · iexists _; isplitr; swap; · iexact H7
      ipureintro
      refine (View.read_writes_full ..).trans ?_
      sl_open_run
      simp only [View.readAt_eq_ld, hf0, e1, e2, e3, e8, e9, c6, c7]
      rfl
    isplitl [H8]
    · iexists _; isplitr; swap; · iexact H8
      ipureintro
      refine (View.read_writes_full ..).trans ?_
      sl_open_run
      unfold wAcc
      rw [if_neg hc0]
    iexists _; isplitr; swap; · iexact H9
    ipureintro
    refine (View.read_writes_full ..).trans ?_
    sl_open_run
    unfold dyAcc
    rw [if_neg hc0]

end Cert.Kernel.R1

end
-- ==== Proof.Kernel.Dat1.lean ====
/- The second kernel's region: what its windows hold point by point, and the body's obligation. -/
module

public import proofs.«01_k».proof.Proof.Kernel.Body1

@[expose] public section

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first point. -/
abbrev t0 : Fin cfg1.N := ⟨0, by rw [show cfg1.N = 36 from N_1]; decide⟩

/-- The weight's running maximum after the body at position `n`. -/
def wAccAt (c : Dev nD) : (n : ℕ) → n < cfg1.N → Vec F S16x128 .bf16
  | 0, hn => wAcc (cond (grid1.coords ⟨0, hn⟩)) (iblk W c 2 ⟨0, hn⟩) (k1_pay18 (F := F))
  | n + 1, hn => wAcc (cond (grid1.coords ⟨n + 1, hn⟩)) (iblk W c 2 ⟨n + 1, hn⟩) (wAccAt c n (Nat.lt_of_succ_lt hn))

theorem wAccAt_step (c : Dev nD) (t : Fin cfg1.N) (d : Vec F S16x128 .bf16)
    (h : t.val ≠ 0 → d = wAccAt W c (t.val - 1) (Nat.lt_of_le_of_lt (Nat.sub_le _ _) t.isLt)) :
    wAcc (cond (grid1.coords t)) (iblk W c 2 t) d = wAccAt W c t.val t.isLt := by
  obtain ⟨n, hn⟩ := t
  cases n with
  | zero =>
    have hc : cond (grid1.coords ⟨0, hn⟩) := (hcond ⟨0, hn⟩).mpr rfl
    unfold wAccAt wAcc
    rw [if_pos hc, if_pos hc]
  | succ n => rw [h (Nat.succ_ne_zero n)]; rfl

/-- The running maximum of `dy` after the body at position `n`. -/
def dyAccAt (c : Dev nD) : (n : ℕ) → n < cfg1.N → Vec F S16x128 .bf16
  | 0, hn => dyAcc (cond (grid1.coords ⟨0, hn⟩)) (iblk W c 3 ⟨0, hn⟩) (k1_pay23 (F := F))
  | n + 1, hn => dyAcc (cond (grid1.coords ⟨n + 1, hn⟩)) (iblk W c 3 ⟨n + 1, hn⟩) (dyAccAt c n (Nat.lt_of_succ_lt hn))

theorem dyAccAt_step (c : Dev nD) (t : Fin cfg1.N) (d : Vec F S16x128 .bf16)
    (h : t.val ≠ 0 → d = dyAccAt W c (t.val - 1) (Nat.lt_of_le_of_lt (Nat.sub_le _ _) t.isLt)) :
    dyAcc (cond (grid1.coords t)) (iblk W c 3 t) d = dyAccAt W c t.val t.isLt := by
  obtain ⟨n, hn⟩ := t
  cases n with
  | zero =>
    have hc : cond (grid1.coords ⟨0, hn⟩) := (hcond ⟨0, hn⟩).mpr rfl
    unfold dyAccAt dyAcc
    rw [if_pos hc, if_pos hc]
  | succ n => rw [h (Nat.succ_ne_zero n)]; rfl

/-- The proof data: arrays as the region finds them; after the body each input's buffer at its block and each output's as the body leaves it; nothing owed; full shares. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => yBlock (iblk W c 0 t) (iblk W c 1 t) (iblk W c 2 t)
    | ⟨5, _⟩ => dwBlock (iblk W c 0 t) (iblk W c 1 t) (iblk W c 3 t)
    | ⟨6, _⟩ => wCodes (iblk W c 0 t) (iblk W c 2 t)
    | ⟨7, _⟩ => dyCodes (iblk W c 0 t) (iblk W c 3 t)
    | ⟨8, _⟩ => wAccAt W c t.val t.isLt
    | ⟨9, _⟩ => dyAccAt W c t.val t.isLt
  Φ _ := Pipeline.ΦA spec1 c
  q _ := fullShare
  owed _ := 0

theorem A_eq (c : Dev nD) (w : Fin cfg1.W) : (dat W c).A w = W c (Proc.devRef .tc (Pipeline.arrRef spec1 w)) := by
  dsimp only [dat]
theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = yBlock (iblk W c 0 t) (iblk W c 1 t) (iblk W c 2 t) := by dsimp only [dat]
theorem after_5 (c : Dev nD) (t : Fin cfg1.N) : (dat W c).after 5 t = dwBlock (iblk W c 0 t) (iblk W c 1 t) (iblk W c 3 t) := by dsimp only [dat]
theorem after_6 (c : Dev nD) (t : Fin cfg1.N) : (dat W c).after 6 t = wCodes (iblk W c 0 t) (iblk W c 2 t) := by dsimp only [dat]
theorem after_7 (c : Dev nD) (t : Fin cfg1.N) : (dat W c).after 7 t = dyCodes (iblk W c 0 t) (iblk W c 3 t) := by dsimp only [dat]
theorem after_8 (c : Dev nD) (t : Fin cfg1.N) : (dat W c).after 8 t = wAccAt W c t.val t.isLt := by dsimp only [dat]
theorem after_9 (c : Dev nD) (t : Fin cfg1.N) : (dat W c).after 9 t = dyAccAt W c t.val t.isLt := by dsimp only [dat]

/-- Each input's buffer holds its block at every point, fetched there or not. -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Past the first point a kept output's buffer holds what the point before left. -/
theorem before_8 (c : Dev nD) (t : Fin cfg1.N) (h0 : t.val ≠ 0) (d) : (dat W c).before 8 t d = wAccAt W c (t.val - 1) (Nat.lt_of_le_of_lt (Nat.sub_le _ _) t.isLt) := by
  have hN : t.val < 36 := lt_of_lt_of_eq t.isLt (show cfg1.N = 36 from N_1)
  rw [Dat.before_out_kept _ 8 rfl t (by omega) (Bool.eq_false_iff.mpr fun h => by have := (flush1_8 _).mp h; dsimp only at this; omega)
    (fun _ => rfl) (fun _ _ => rfl)]
  dsimp only [dat]
theorem before_9 (c : Dev nD) (t : Fin cfg1.N) (h0 : t.val ≠ 0) (d) : (dat W c).before 9 t d = dyAccAt W c (t.val - 1) (Nat.lt_of_le_of_lt (Nat.sub_le _ _) t.isLt) := by
  have hN : t.val < 36 := lt_of_lt_of_eq t.isLt (show cfg1.N = 36 from N_1)
  rw [Dat.before_out_kept _ 9 rfl t (by omega) (Bool.eq_false_iff.mpr fun h => by have := (flush1_9 _).mp h; dsimp only at this; omega)
    (fun _ => rfl) (fun _ _ => rfl)]
  dsimp only [dat]

set_option maxHeartbeats 1600000 in
/-- The body at any point. -/
theorem sound_body (c : Dev nD) (t : Fin cfg1.N) :
    iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d))
    ∗ (∃ d, owns (c : Thread nD τ) (st1_7 t) fullShare ((dat W c).before 7 t d))
    ∗ (∃ d, owns (c : Thread nD τ) (st1_8 t) fullShare ((dat W c).before 8 t d))
    ∗ (∃ d, owns (c : Thread nD τ) (st1_9 t) fullShare ((dat W c).before 9 t d)))
    ⊢ wp frame (wpE (defs₀ (F := F)) Variants.none c none) Set.univ (bodyAt1 t) (fun _ => iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t)
    ∗ owns (c : Thread nD τ) (st1_7 t) fullShare ((dat W c).after 7 t)
    ∗ owns (c : Thread nD τ) (st1_8 t) fullShare ((dat W c).after 8 t)
    ∗ owns (c : Thread nD τ) (st1_9 t) fullShare ((dat W c).after 9 t))) := by
  unfold bodyAt1
  simp only [before_0, before_1, before_2, before_3]
  rw [show (dat W c).Φ t.succ = (dat W c).Φ t.castSucc from rfl,
    show (dat W c).owesAt () t.succ = (dat W c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← wAccAt_step W c t ((dat W c).before 8 t d8) (fun h => before_8 W c t h d8), ← dyAccAt_step W c t ((dat W c).before 9 t d9) (fun h => before_9 W c t h d9)]
  iapply (body c (grid1.coords t) _ _ _ _ _ _ _ _ _ _ _ _ _ _ _ _ _ _ _ _ (iblk W c 0 t) (iblk W c 1 t) (iblk W c 2 t) (iblk W c 3 t) ((dat W c).before 8 t d8) ((dat W c).before 9 t d9) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body there. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.Kernel.R1

end
-- ==== Proof.Kernel.Body2.lean ====
/- One grid point of the third kernel: the block's columns of the input's gradient; at the first point also the next history and the three scales. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Tactic.Stretches

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinates. -/
abbrev cond (i : grid2.Coords) : Prop := k2_cond1 i = 1#1

/-- It holds at the first point only. -/
theorem hcond : ∀ t : Fin cfg2.N, cond (grid2.coords t) ↔ t.val = 0 :=
  (fun t => by
    have ht : t.val < 14 := Nat.lt_of_lt_of_eq t.isLt N_2
    have e0 : (grid2.coords t 0).val = t.val / 1 % 14 := Pipeline.Grid.coords_val t 0 (by decide) rfl
    simp only [cond, k2_cond1, e0]
    rw [show t.val = 0 ↔ t.val % 14 = 0 from by omega]
    word_cmp
   : ∀ t : Fin grid2.N, cond (grid2.coords t) ↔ t.val = 0)

/-- The scale of `x`, of the weight and of `dy` from the history's rows. -/
def xScale (x0 : Vec F S3x16 .f32) : FVec F S1x1 .f32 := k2_pay10 (View.ld x0 (Rect.unit (s := S3x16) ![0, 0] S1x16.size inb_S3x16_S1x16_0_0))
def wScale (x0 : Vec F S3x16 .f32) : FVec F S1x1 .f32 := k2_pay13 (k2_pay11 (View.ld x0 (Rect.unit (s := S3x16) ![1, 0] S1x16.size inb_S3x16_S1x16_1_0))) (k2_pay12 (F := F)) (Scalar.ofBits .f32 0x3B124925#32)
/-- The block's columns of the input's gradient. -/
def dxBlock (x0 : Vec F S3x16 .f32) (x4 : Vec F S3072x9216 .fp8e5m2) (x5 : Vec F S9216x512 .fp8e4m3) : Vec F S3072x512 .bf16 :=
  k2_pay2 (wScale x0) (k2_pay14 (View.ld x0 (Rect.unit (s := S3x16) ![2, 0] S1x16.size inb_S3x16_S1x16_2_0))) (k2_pay15 (View.ld x0 (Rect.unit (s := S3x16) ![2, 0] S1x16.size inb_S3x16_S1x16_2_0))) x4 x5
/-- An index of a three-row array lies in one of its rows. -/
theorem row_cases (n : ℕ) (y : (⟨2, ![3, n]⟩ : Shape).Idx) : (y 0).val = 0 ∨ (y 0).val = 1 ∨ (y 0).val = 2 := by
  have h : (y 0).val < 3 := (y 0).isLt
  omega

/-- The six pieces of the next history hold every index. -/
theorem histCover (p20 : Vec F S1x1 .f32) (p21 : Vec F S1x15 .f32) (p10 : Vec F S1x1 .f32) (p11 : Vec F S1x15 .f32) (p00 : Vec F S1x1 .f32) (p01 : Vec F S1x15 .f32) (y : S3x16.Idx) :
    ∃ p ∈ ([⟨Rect.unit (s := S3x16) ![2, 0] S1x1.size inb_S3x16_S1x1_2_0, p20⟩, ⟨Rect.unit (s := S3x16) ![2, 1] S1x15.size inb_S3x16_S1x15_2_1, p21⟩,
      ⟨Rect.unit (s := S3x16) ![1, 0] S1x1.size inb_S3x16_S1x1_1_0, p10⟩, ⟨Rect.unit (s := S3x16) ![1, 1] S1x15.size inb_S3x16_S1x15_1_1, p11⟩,
      ⟨Rect.unit (s := S3x16) ![0, 0] S1x1.size inb_S3x16_S1x1_0_0, p00⟩, ⟨Rect.unit (s := S3x16) ![0, 1] S1x15.size inb_S3x16_S1x15_0_1, p01⟩] : List (View.Piece (Elt F) S3x16 .f32)), y ∈ p.1.set := by
  have h1 : (y 1).val < 16 := (y 1).isLt
  simp only [List.exists_mem_cons_iff, Rect.mem_set_unit, Fin.forall_fin_two, Matrix.cons_val_zero, Matrix.cons_val_one]
  rcases row_cases 16 y with h | h | h <;> rcases Nat.eq_zero_or_pos (y 1).val with h0 | h0 <;> simp [h, h0] <;> omega

/-- The three rows of the scales hold every index. -/
theorem scaleCover (p2 p1 p0 : Vec F S1x128 .f32) (y : S3x128.Idx) :
    ∃ p ∈ ([⟨Rect.unit (s := S3x128) ![2, 0] S1x128.size inb_S3x128_S1x128_2_0, p2⟩, ⟨Rect.unit (s := S3x128) ![1, 0] S1x128.size inb_S3x128_S1x128_1_0, p1⟩,
      ⟨Rect.unit (s := S3x128) ![0, 0] S1x128.size inb_S3x128_S1x128_0_0, p0⟩] : List (View.Piece (Elt F) S3x128 .f32)), y ∈ p.1.set := by
  have h1 : (y 1).val < 128 := (y 1).isLt
  simp only [List.exists_mem_cons_iff, Rect.mem_set_unit, Fin.forall_fin_two, Matrix.cons_val_zero, Matrix.cons_val_one]
  rcases row_cases 128 y with h | h | h <;> simp [h] <;> omega

/-- The next history: each row moved by one, the new maximum in front. -/
def newHist (x0 : Vec F S3x16 .f32) (x1 x2 x3 : Vec F S16x128 .bf16) : Vec F S3x16 .f32 := View.canon (Val := Elt F) (e := .f32)
  [⟨Rect.unit (s := S3x16) ![2, 0] S1x1.size inb_S3x16_S1x1_2_0, k2_pay3 (k2_pay9 x3)⟩, ⟨Rect.unit (s := S3x16) ![2, 1] S1x15.size inb_S3x16_S1x15_2_1, View.ld x0 (Rect.unit (s := S3x16) ![2, 0] S1x15.size inb_S3x16_S1x15_2_0)⟩,
   ⟨Rect.unit (s := S3x16) ![1, 0] S1x1.size inb_S3x16_S1x1_1_0, k2_pay7 x2⟩, ⟨Rect.unit (s := S3x16) ![1, 1] S1x15.size inb_S3x16_S1x15_1_1, View.ld x0 (Rect.unit (s := S3x16) ![1, 0] S1x15.size inb_S3x16_S1x15_1_0)⟩,
   ⟨Rect.unit (s := S3x16) ![0, 0] S1x1.size inb_S3x16_S1x1_0_0, k2_pay5 x1⟩, ⟨Rect.unit (s := S3x16) ![0, 1] S1x15.size inb_S3x16_S1x15_0_1, View.ld x0 (Rect.unit (s := S3x16) ![0, 0] S1x15.size inb_S3x16_S1x15_0_0)⟩]
/-- The three scales, one row each. -/
def scales (x0 : Vec F S3x16 .f32) : Vec F S3x128 .f32 := View.canon (Val := Elt F) (e := .f32)
  [⟨Rect.unit (s := S3x128) ![2, 0] S1x128.size inb_S3x128_S1x128_2_0, k2_pay4 (F := F) (k2_pay14 (View.ld x0 (Rect.unit (s := S3x16) ![2, 0] S1x16.size inb_S3x16_S1x16_2_0))) (k2_pay15 (View.ld x0 (Rect.unit (s := S3x16) ![2, 0] S1x16.size inb_S3x16_S1x16_2_0)))⟩,
   ⟨Rect.unit (s := S3x128) ![1, 0] S1x128.size inb_S3x128_S1x128_1_0, k2_pay8 (wScale x0)⟩,
   ⟨Rect.unit (s := S3x128) ![0, 0] S1x128.size inb_S3x128_S1x128_0_0, k2_pay6 (xScale x0)⟩]

set_option maxHeartbeats 4000000 in
/-- The body: each output block at what it stores, the running values folded in. -/
theorem body (c : Dev nD) (i : grid2.Coords) (arg1 : Memref sig .tc .vmem S3x16 .f32) (harg1 : arg1.IsWhole) (arg2 : Memref sig .tc .vmem S16x128 .bf16) (harg2 : arg2.IsWhole) (arg3 : Memref sig .tc .vmem S16x128 .bf16) (harg3 : arg3.IsWhole) (arg4 : Memref sig .tc .vmem S16x128 .bf16) (harg4 : arg4.IsWhole) (arg5 : Memref sig .tc .vmem S3072x9216 .fp8e5m2) (harg5 : arg5.IsWhole) (arg6 : Memref sig .tc .vmem S9216x512 .fp8e4m3) (harg6 : arg6.IsWhole) (arg7 : Memref sig .tc .vmem S3072x512 .bf16) (harg7 : arg7.IsWhole) (arg8 : Memref sig .tc .vmem S3x16 .f32) (harg8 : arg8.IsWhole) (arg9 : Memref sig .tc .vmem S3x128 .f32) (harg9 : arg9.IsWhole)
    (x0 : Vec F S3x16 .f32) (x1 : Vec F S16x128 .bf16) (x2 : Vec F S16x128 .bf16) (x3 : Vec F S16x128 .bf16) (x4 : Vec F S3072x9216 .fp8e5m2) (x5 : Vec F S9216x512 .fp8e4m3) (x7 : Vec F S3x16 .f32) (x8 : Vec F S3x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare (dxBlock x0 x4 x5)
          ∗ owns (c : Thread nD τ) arg8 fullShare (if cond i then newHist x0 x1 x2 x3 else x7)
          ∗ owns (c : Thread nD τ) arg9 fullShare (if cond i then scales x0 else x8)) -∗ K ⟨⟩))
      ⊢ wp frame (wpE (defs₀ (F := F)) Variants.none c none) E (cc2_dx i arg1 harg1 arg2 harg2 arg3 harg3 arg4 harg4 arg5 harg5 arg6 harg6 arg7 harg7 arg8 harg8 arg9 harg9) K := by
  simp only [cc2_dx_eq_skeleton]; unfold cc2_dx_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
  have e1 : arg2.view.readAt (Elt F) (Rect.unit (s := S16x128) ![0, 0] ![16, 128] inb_S16x128_S16x128_0_0).toLoadRect (harg2.unread x1) = x1 :=
    (View.readAt_full _ _ _).trans hf1
  have e2 : arg3.view.readAt (Elt F) (Rect.unit (s := S16x128) ![0, 0] ![16, 128] inb_S16x128_S16x128_0_0).toLoadRect (harg3.unread x2) = x2 :=
    (View.readAt_full _ _ _).trans hf2
  have e3 : arg4.view.readAt (Elt F) (Rect.unit (s := S16x128) ![0, 0] ![16, 128] inb_S16x128_S16x128_0_0).toLoadRect (harg4.unread x3) = x3 :=
    (View.readAt_full _ _ _).trans hf3
  have e4 : arg5.view.readAt (Elt F) (Rect.unit (s := S3072x9216) ![0, 0] S3072x9216.size inb_S3072x9216_S3072x9216_0_0).toLoadRect (harg5.unread x4) = x4 :=
    (View.readAt_full _ _ _).trans hf4
  have e5 : arg6.view.readAt (Elt F) (Rect.unit (s := S9216x512) ![0, 0] S9216x512.size inb_S9216x512_S9216x512_0_0).toLoadRect (harg6.unread x5) = x5 :=
    (View.readAt_full _ _ _).trans hf5
  by_cases hc0 : cond i
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      refine (View.read_writes_full ..).trans ?_
      sl_open_run
      simp only [View.readAt_eq_ld, hf0, e1, e2, e3, e4, e5]
      rfl
    isplitl [H7]
    · iexists _; isplitr; swap; · iexact H7
      ipureintro
      rw [if_pos hc0]
      refine (View.read_writes_eq_canon _ _ _ (histCover _ _ _ _ _ _)).trans ?_
      sl_open_run
      simp only [View.readAt_eq_ld, hf0, e1, e2, e3, e4, e5]
      rfl
    iexists _; isplitr; swap; · iexact H8
    ipureintro
    rw [if_pos hc0]
    refine (View.read_writes_eq_canon _ _ _ (scaleCover _ _ _)).trans ?_
    sl_open_run
    simp only [View.readAt_eq_ld, hf0, e1, e2, e3, e4, e5]
    rfl
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      refine (View.read_writes_full ..).trans ?_
      sl_open_run
      simp only [View.readAt_eq_ld, hf0, e1, e2, e3, e4, e5]
      rfl
    isplitl [H7]
    · iexists _; isplitr; swap; · iexact H7
      ipureintro
      rw [if_neg hc0]
      exact hf7
    iexists _; isplitr; swap; · iexact H8
    ipureintro
    rw [if_neg hc0]
    exact hf8

end Cert.Kernel.R2

end
-- ==== Proof.Kernel.Dat2.lean ====
/- The third kernel's region: what its windows hold point by point, and the body's obligation. -/
module

public import proofs.«01_k».proof.Proof.Kernel.Body2

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The first point. -/
abbrev t0 : Fin cfg2.N := ⟨0, by rw [show cfg2.N = 14 from N_2]; decide⟩

/-- The next history and the scales, as the first point writes them. -/
def histOut (c : Dev nD) : Vec F S3x16 .f32 := newHist (iblk W c 0 t0) (iblk W c 1 t0) (iblk W c 2 t0) (iblk W c 3 t0)
def scaleOut (c : Dev nD) : Vec F S3x128 .f32 := scales (iblk W c 0 t0)

theorem histOut_step (c : Dev nD) (t : Fin cfg2.N) (d : Vec F S3x16 .f32) (h : t.val ≠ 0 → d = histOut W c) :
    (if cond (grid2.coords t) then newHist (iblk W c 0 t) (iblk W c 1 t) (iblk W c 2 t) (iblk W c 3 t) else d) = histOut W c := by
  by_cases h0 : t.val = 0
  · rw [if_pos ((hcond t).mpr h0), show t = t0 from Fin.ext h0]; rfl
  · rw [if_neg fun hc => h0 ((hcond t).mp hc), h h0]
theorem scaleOut_step (c : Dev nD) (t : Fin cfg2.N) (d : Vec F S3x128 .f32) (h : t.val ≠ 0 → d = scaleOut W c) :
    (if cond (grid2.coords t) then scales (iblk W c 0 t) else d) = scaleOut W c := by
  by_cases h0 : t.val = 0
  · rw [if_pos ((hcond t).mpr h0), show t = t0 from Fin.ext h0]; rfl
  · rw [if_neg fun hc => h0 ((hcond t).mp hc), h h0]

/-- The proof data: arrays as the region finds them; after the body each input's buffer at its block and each output's as the body leaves it; nothing owed; full shares. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => dxBlock (iblk W c 0 t) (iblk W c 4 t) (iblk W c 5 t)
    | ⟨7, _⟩ => histOut W c
    | ⟨8, _⟩ => scaleOut W c
  Φ _ := Pipeline.ΦA spec2 c
  q _ := fullShare
  owed _ := 0

theorem A_eq (c : Dev nD) (w : Fin cfg2.W) : (dat W c).A w = W c (Proc.devRef .tc (Pipeline.arrRef spec2 w)) := by
  dsimp only [dat]
theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = iblk W c 3 t := by dsimp only [dat]
theorem after_4 (c : Dev nD) (t : Fin cfg2.N) : (dat W c).after 4 t = iblk W c 4 t := by dsimp only [dat]
theorem after_5 (c : Dev nD) (t : Fin cfg2.N) : (dat W c).after 5 t = iblk W c 5 t := by dsimp only [dat]
theorem after_6 (c : Dev nD) (t : Fin cfg2.N) : (dat W c).after 6 t = dxBlock (iblk W c 0 t) (iblk W c 4 t) (iblk W c 5 t) := by dsimp only [dat]
theorem after_7 (c : Dev nD) (t : Fin cfg2.N) : (dat W c).after 7 t = histOut W c := by dsimp only [dat]
theorem after_8 (c : Dev nD) (t : Fin cfg2.N) : (dat W c).after 8 t = scaleOut W c := by dsimp only [dat]

/-- Each input's buffer holds its block at every point, fetched there or not. -/
theorem before_0 (c : Dev nD) (t : Fin cfg2.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat W c).before 5 t d = iblk W c 5 t :=
  ((dat W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Windows 7 and 8 are stored at the first point only, and keep what it stored. -/
theorem idle_7 (t : Fin cfg2.N) : cfg2.idle 7 (cfg2.grid.coords t) = true ↔ t.val ≠ 0 := by
  rw [show cfg2.idle 7 (cfg2.grid.coords t) = !(k2_cond1 (grid2.coords t) == 1#1) from rfl, Ne, ← hcond t]
  unfold cond; simp
theorem flush_7 (t : Fin cfg2.N) (h : t.val < 13) : (cfg2.win 7).flush t = false :=
  Bool.eq_false_iff.mpr fun hf => by have := (flush2_7 _).mp hf; omega
theorem before_7_at (c : Dev nD) : ∀ (n : ℕ) (t : Fin cfg2.N), t.val = n + 1 → ∀ d, (dat W c).before 7 t d = histOut W c
  | 0, t, h, d => by
    have hN : t.val < 14 := lt_of_lt_of_eq t.isLt (show cfg2.N = 14 from N_2)
    have hi : cfg2.idle 7 (cfg2.grid.coords ⟨t.val - 1, Nat.lt_of_le_of_lt (Nat.sub_le _ _) t.isLt⟩) = false :=
      Bool.eq_false_iff.mpr fun hh => (idle_7 _).mp hh (by dsimp only; omega)
    rw [(dat W c).before_of_pos 7 t (by omega) ((cfg2.win 7).fetch_out rfl t), flush_7 _ (by dsimp only; omega), if_neg Bool.false_ne_true]
    unfold Dat.left; rw [hi]; dsimp only; unfold Dat.kept
    rw [Pipeline.fill_of_clip_none _ _ (fun _ => rfl) d ((dat W c).after 7 _), Window.fill_cut]
    dsimp only [dat]
  | n + 1, t, h, d => by
    have hN : t.val < 14 := lt_of_lt_of_eq t.isLt (show cfg2.N = 14 from N_2)
    have hi : cfg2.idle 7 (cfg2.grid.coords ⟨t.val - 1, Nat.lt_of_le_of_lt (Nat.sub_le _ _) t.isLt⟩) = true :=
      (idle_7 _).mpr (by dsimp only; omega)
    rw [(dat W c).before_of_pos 7 t (by omega) ((cfg2.win 7).fetch_out rfl t), flush_7 _ (by dsimp only; omega), if_neg Bool.false_ne_true]
    unfold Dat.left; rw [hi]; dsimp only
    exact before_7_at c n _ (by dsimp only; omega) d
theorem before_7 (c : Dev nD) (t : Fin cfg2.N) (h0 : t.val ≠ 0) (d) : (dat W c).before 7 t d = histOut W c :=
  before_7_at W c (t.val - 1) t (by omega) d
theorem leaves_7 (c : Dev nD) (t : Fin cfg2.N) :
    owns (c : Thread nD τ) ((cfg2.win 7).stage (cfg2.slots t 7)) fullShare ((dat W c).after 7 t) ⊢ (dat W c).leavesExact 7 t := by
  unfold Dat.leavesExact
  by_cases h0 : t.val = 0
  · rw [show cfg2.idle 7 (cfg2.grid.coords t) = false from Bool.eq_false_iff.mpr fun hh => (idle_7 _).mp hh h0]
  · rw [(idle_7 t).mpr h0]; dsimp only
    cases (cfg2.win 7).flush t
    · dsimp only; simp only [before_7 W c t h0, after_7]
      iintro H; iexists (histOut W c); iexact H
    · exact .rfl
theorem idle_8 (t : Fin cfg2.N) : cfg2.idle 8 (cfg2.grid.coords t) = true ↔ t.val ≠ 0 := by
  rw [show cfg2.idle 8 (cfg2.grid.coords t) = !(k2_cond1 (grid2.coords t) == 1#1) from rfl, Ne, ← hcond t]
  unfold cond; simp
theorem flush_8 (t : Fin cfg2.N) (h : t.val < 13) : (cfg2.win 8).flush t = false :=
  Bool.eq_false_iff.mpr fun hf => by have := (flush2_8 _).mp hf; omega
theorem before_8_at (c : Dev nD) : ∀ (n : ℕ) (t : Fin cfg2.N), t.val = n + 1 → ∀ d, (dat W c).before 8 t d = scaleOut W c
  | 0, t, h, d => by
    have hN : t.val < 14 := lt_of_lt_of_eq t.isLt (show cfg2.N = 14 from N_2)
    have hi : cfg2.idle 8 (cfg2.grid.coords ⟨t.val - 1, Nat.lt_of_le_of_lt (Nat.sub_le _ _) t.isLt⟩) = false :=
      Bool.eq_false_iff.mpr fun hh => (idle_8 _).mp hh (by dsimp only; omega)
    rw [(dat W c).before_of_pos 8 t (by omega) ((cfg2.win 8).fetch_out rfl t), flush_8 _ (by dsimp only; omega), if_neg Bool.false_ne_true]
    unfold Dat.left; rw [hi]; dsimp only; unfold Dat.kept
    rw [Pipeline.fill_of_clip_none _ _ (fun _ => rfl) d ((dat W c).after 8 _), Window.fill_cut]
    dsimp only [dat]
  | n + 1, t, h, d => by
    have hN : t.val < 14 := lt_of_lt_of_eq t.isLt (show cfg2.N = 14 from N_2)
    have hi : cfg2.idle 8 (cfg2.grid.coords ⟨t.val - 1, Nat.lt_of_le_of_lt (Nat.sub_le _ _) t.isLt⟩) = true :=
      (idle_8 _).mpr (by dsimp only; omega)
    rw [(dat W c).before_of_pos 8 t (by omega) ((cfg2.win 8).fetch_out rfl t), flush_8 _ (by dsimp only; omega), if_neg Bool.false_ne_true]
    unfold Dat.left; rw [hi]; dsimp only
    exact before_8_at c n _ (by dsimp only; omega) d
theorem before_8 (c : Dev nD) (t : Fin cfg2.N) (h0 : t.val ≠ 0) (d) : (dat W c).before 8 t d = scaleOut W c :=
  before_8_at W c (t.val - 1) t (by omega) d
theorem leaves_8 (c : Dev nD) (t : Fin cfg2.N) :
    owns (c : Thread nD τ) ((cfg2.win 8).stage (cfg2.slots t 8)) fullShare ((dat W c).after 8 t) ⊢ (dat W c).leavesExact 8 t := by
  unfold Dat.leavesExact
  by_cases h0 : t.val = 0
  · rw [show cfg2.idle 8 (cfg2.grid.coords t) = false from Bool.eq_false_iff.mpr fun hh => (idle_8 _).mp hh h0]
  · rw [(idle_8 t).mpr h0]; dsimp only
    cases (cfg2.win 8).flush t
    · dsimp only; simp only [before_8 W c t h0, after_8]
      iintro H; iexists (scaleOut W c); iexact H
    · exact .rfl

set_option maxHeartbeats 1600000 in
/-- The body at any point. -/
theorem sound_body (c : Dev nD) (t : Fin cfg2.N) :
    iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d))
    ∗ (∃ d, owns (c : Thread nD τ) (st2_7 t) fullShare ((dat W c).before 7 t d))
    ∗ (∃ d, owns (c : Thread nD τ) (st2_8 t) fullShare ((dat W c).before 8 t d)))
    ⊢ wp frame (wpE (defs₀ (F := F)) Variants.none c none) Set.univ (bodyAt2 t) (fun _ => iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t)
    ∗ owns (c : Thread nD τ) (st2_5 t) fullShare ((dat W c).after 5 t)
    ∗ owns (c : Thread nD τ) (st2_6 t) fullShare ((dat W c).after 6 t)
    ∗ owns (c : Thread nD τ) (st2_7 t) fullShare ((dat W c).after 7 t)
    ∗ owns (c : Thread nD τ) (st2_8 t) fullShare ((dat W c).after 8 t))) := by
  unfold bodyAt2
  simp only [before_0, before_1, before_2, before_3, before_4, before_5]
  rw [show (dat W c).Φ t.succ = (dat W c).Φ t.castSucc from rfl,
    show (dat W c).owesAt () t.succ = (dat W c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← histOut_step W c t ((dat W c).before 7 t d7) (fun h => before_7 W c t h d7), ← scaleOut_step W c t ((dat W c).before 8 t d8) (fun h => before_8 W c t h d8)]
  iapply (body c (grid2.coords t) _ _ _ _ _ _ _ _ _ _ _ _ _ _ _ _ _ _ (iblk W c 0 t) (iblk W c 1 t) (iblk W c 2 t) (iblk W c 3 t) (iblk W c 4 t) (iblk W c 5 t) ((dat W c).before 7 t d7) ((dat W c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body there. -/
theorem defs₀_row (t : Fin cfg2.N) :
    defs₀ (F := F) .tc cfg2.body (cfg2.bodyArgs t (cfg2.slots t)) = bodyAt2 t := by
  unfold defs₀; rw [Defs.onTc_tc]

end Cert.Kernel.R2

end
-- ==== Proof.Kernel.Obl2.lean ====
/- The third kernel's body obligation. -/
module

public import proofs.«01_k».proof.Proof.Kernel.Dat2

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The library's body obligation, at every point. -/
theorem body_obligation (c : Dev nD) : BodyObligation (dat (F := F) W c) (defs₀ (F := F)) Variants.none () Set.univ := fun t => by
  rw [bigSep_W2, bigSep_W2, defs₀_row]
  refine triple_restated (sound_body W c t) rfl (BI.Entails.refl _) fun _ => ?_
  have h7 := leaves_7 W c t
  have h8 := leaves_8 W c t
  unfold Dat.leavesExact at h7 h8
  dsimp only
  dsimp only at h7 h8
  iintro ⟨HΦ, Ho, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply h7; iexact H7
  iapply h8; iexact H8

end Cert.Kernel.R2

end
-- ==== Proof.Kernel.Compose.lean ====
/- The whole run: the three kernels' regions chained between the host's reshapes. Every unscoped buffer of the final
   memory is named, `W5`. -/
module

public import proofs.«01_k».proof.Proof.Gen.Kernel.Regions
public import proofs.«01_k».proof.Proof.Kernel.Dat0
public import proofs.«01_k».proof.Proof.Kernel.Dat1
public import proofs.«01_k».proof.Proof.Kernel.Obl2
public import Idealize.ShloMosaic.Lib.Pipeline.RegionArraysS

@[expose] public section

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers after the host's first reshapes, after each kernel, and at the end. -/
def W1 (c : Dev nD) : Valuation τ sig (Elt F) := StableHlo.after hostOps0 (V0 m c)
def W2 (c : Dev nD) : Valuation τ sig (Elt F) := Pipeline.afterRegion (R0.dat (W1 m) c) (W1 m c)
def W3 (c : Dev nD) : Valuation τ sig (Elt F) := Pipeline.afterRegion (R1.dat (W2 m) c) (W2 m c)
def W4 (c : Dev nD) : Valuation τ sig (Elt F) := Pipeline.afterRegion (R2.dat (W3 m) c) (W3 m c)
def W5 (c : Dev nD) : Valuation τ sig (Elt F) := StableHlo.after hostOps3 (W4 m c)

/-- The three kernels' proof data. -/
def pdats : (p : Fin 3) → (c : Dev nD) → Dat τ (Elt F) Unit ℕ (UR sig nD τ) ℕ (cfgs p) c
  | ⟨0, _⟩, c => R0.dat (W1 m) c
  | ⟨1, _⟩, c => R1.dat (W2 m) c
  | ⟨2, _⟩, c => R2.dat (W3 m) c

/-- Every semaphore of a TensorCore may carry the one index; nothing is owed. -/
def L (g : GSem nD τ sig) : Finset Unit := if g.1.2 = .tc then {()} else ∅
def lv (_ : GSem nD τ sig) (_ : Unit) : ℕ := 0

/-- What rides beside the buffers: nothing owed, and the generator register. -/
def rest (c : Dev nD) : sProp 𝕄 :=
  iprop((∃ Wd, owes (c : Thread nD τ) (0 : CellTallies nD τ sig Unit) Wd) ∗ (∃ r, prngReg c r) ∗ emp)

theorem cut (p : Fin 3) : Pipeline.LevelCut (nD := nD) (τ := τ) (pcfgs (F := F)) adm () L lv p (fun _ => 0) (fun _ => 0) where
  hι c w s := by unfold L; rw [if_pos rfl]; exact Finset.mem_singleton_self _
  hιb _ _ _ := le_refl _
  hD _ _ _ h := absurd h (lt_irrefl _)

theorem uc (p : Fin 3) : Pipeline.arrRefs (τ := τ) (pcfgs (F := F) p).spec ⊆ Pipeline.ucRefs τ sig :=
  Pipeline.arrRefs_sub_ucRefs _ (by
    match p with
    | ⟨0, _⟩ => exact launch0.win.arr_unscoped
    | ⟨1, _⟩ => exact launch1.win.arr_unscoped
    | ⟨2, _⟩ => exact launch2.win.arr_unscoped)

/-- Each kernel's region over the unscoped buffers. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (R0.body_obligation (W1 m) c).loose) (fun _ _ => rfl) (fun _ => rfl)
    (fun c w => by unfold Dat.share; exact ite_self _) (fun _ => .rfl) (fun _ => .rfl)
    (fun _ => 0) (cut 0) (fun _ => iprop(emp)) (W1 m) (fun c w => rfl)
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (R1.body_obligation (W2 m) c).loose) (fun _ _ => rfl) (fun _ => rfl)
    (fun c w => by unfold Dat.share; exact ite_self _) (fun _ => .rfl) (fun _ => .rfl)
    (fun _ => 0) (cut 1) (fun _ => iprop(emp)) (W2 m) (fun c w => rfl)
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) (launch2.toP) rfl
    (fun c => (R2.body_obligation (W3 m) c).loose) (fun _ _ => rfl) (fun _ => rfl)
    (fun c w => by unfold Dat.share; exact ite_self _) (fun _ => .rfl) (fun _ => .rfl)
    (fun _ => 0) (cut 2) (fun _ => iprop(emp)) (W3 m) (fun c w => rfl)

theorem pre0 (c : Dev nD) : iprop(StableHlo.held (c : Thread nD τ) (Pipeline.ucRefs τ sig) (W1 m c) ∗ rest (F := F) c) ⊢ (reg0 m).pre c :=
  RegionSeg.ofHeldIn_pre (pcs := pcfgs (F := F)) (a := adm) (pdats := pdats m) (ι := ()) (defs₀ := defs₀) (𝒱₀ := Variants.none) (L := L) (lv := lv) (p := 0) (D := fun _ => 0)
    (S := Pipeline.ucRefs τ sig) (uc 0) (X := fun c => iprop(∃ r, prngReg c r)) (Y := fun c => iprop(∃ r, prngReg c r)) (kit := launch0.toP) (hK := rfl)
    (hbody := fun c => (R0.body_obligation (W1 m) c).loose) (howed := fun _ _ => rfl) (hrec := fun _ => rfl)
    (hshare := fun c w => by unfold Dat.share; exact ite_self _) (hin := fun _ => .rfl) (hout := fun _ => .rfl)
    (b := fun _ => 0) (hcut := cut 0) (R := fun _ => iprop(emp)) (W := W1 m) (hW := fun c w => rfl) c
theorem post0 (c : Dev nD) : (reg0 m).post c ⊢ iprop(StableHlo.held (c : Thread nD τ) (Pipeline.ucRefs τ sig) (W2 m c) ∗ rest (F := F) c) :=
  RegionSeg.ofHeldIn_post (uc 0) c
theorem pre1 (c : Dev nD) : iprop(StableHlo.held (c : Thread nD τ) (Pipeline.ucRefs τ sig) (W2 m c) ∗ rest (F := F) c) ⊢ (reg1 m).pre c :=
  RegionSeg.ofHeldIn_pre (pcs := pcfgs (F := F)) (a := adm) (pdats := pdats m) (ι := ()) (defs₀ := defs₀) (𝒱₀ := Variants.none) (L := L) (lv := lv) (p := 1) (D := fun _ => 0)
    (S := Pipeline.ucRefs τ sig) (uc 1) (X := fun c => iprop(∃ r, prngReg c r)) (Y := fun c => iprop(∃ r, prngReg c r)) (kit := launch1.toP) (hK := rfl)
    (hbody := fun c => (R1.body_obligation (W2 m) c).loose) (howed := fun _ _ => rfl) (hrec := fun _ => rfl)
    (hshare := fun c w => by unfold Dat.share; exact ite_self _) (hin := fun _ => .rfl) (hout := fun _ => .rfl)
    (b := fun _ => 0) (hcut := cut 1) (R := fun _ => iprop(emp)) (W := W2 m) (hW := fun c w => rfl) c
theorem post1 (c : Dev nD) : (reg1 m).post c ⊢ iprop(StableHlo.held (c : Thread nD τ) (Pipeline.ucRefs τ sig) (W3 m c) ∗ rest (F := F) c) :=
  RegionSeg.ofHeldIn_post (uc 1) c
theorem pre2 (c : Dev nD) : iprop(StableHlo.held (c : Thread nD τ) (Pipeline.ucRefs τ sig) (W3 m c) ∗ rest (F := F) c) ⊢ (reg2 m).pre c :=
  RegionSeg.ofHeldIn_pre (pcs := pcfgs (F := F)) (a := adm) (pdats := pdats m) (ι := ()) (defs₀ := defs₀) (𝒱₀ := Variants.none) (L := L) (lv := lv) (p := 2) (D := fun _ => 0)
    (S := Pipeline.ucRefs τ sig) (uc 2) (X := fun c => iprop(∃ r, prngReg c r)) (Y := fun c => iprop(∃ r, prngReg c r)) (kit := launch2.toP) (hK := rfl)
    (hbody := fun c => (R2.body_obligation (W3 m) c).loose) (howed := fun _ _ => rfl) (hrec := fun _ => rfl)
    (hshare := fun c w => by unfold Dat.share; exact ite_self _) (hin := fun _ => .rfl) (hout := fun _ => .rfl)
    (b := fun _ => 0) (hcut := cut 2) (R := fun _ => iprop(emp)) (W := W3 m) (hW := fun c w => rfl) c
theorem post2 (c : Dev nD) : (reg2 m).post c ⊢ iprop(StableHlo.held (c : Thread nD τ) (Pipeline.ucRefs τ sig) (W4 m c) ∗ rest (F := F) c) :=
  RegionSeg.ofHeldIn_post (uc 2) c

/-- The host's reshapes before and after the kernels. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) rest

abbrev segs (c : Dev nD) : List (Seg (pcfgs (F := F)) adm (pdats m) () defs₀ Variants.none L lv) :=
  [.host (host0 m), .region (reg0 m), .region (reg1 m), .region (reg2 m), .host (host3 m)]

set_option backward.isDefEq.respectTransparency.types false in
/-- Every execution ends, with every unscoped buffer at `W5` and every semaphore at zero. -/
theorem run (ρ : Dev nD → PrngReg) :
    θ_run defs (onTc (τ := τ) (main (F := F))) ⟨m, fun _ => 0, ρ⟩ (fun r =>
      (∀ (c : Dev nD), ∀ b ∈ Pipeline.ucRefs τ sig, r.2.mem ((c.tc : Thread nD τ).1, b) = W5 m c b) ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Seg.run_eq_chain,
        show (segs m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g h => by unfold L; rw [if_neg h])
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (W5 m c))
    (hch := fun c => ⟨.rfl, pre0 m c, (post0 m c).trans (pre1 m c), (post1 m c).trans (pre2 m c), post2 m c, ?_⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W5 m c) ∗ rest (F := F) c) ⊢ _
    unfold rest
    iintro ⟨Hh, HO, -, -⟩
    isplitl [Hh] <;> iassumption
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    imodintro; iexact Hr

end Cert.Kernel.Whole

end
-- ==== Proof.Kernel.Frame.lean ====
/- The kernel leaves its four arguments alone. -/
module

public import proofs.«01_k».proof.Proof.Kernel.Compose

@[expose] public section

noncomputable section

namespace Cert.Kernel.Whole

open Cert.Kernel Cert.Kernel.Gen
open Idealize.ShloMosaic Idealize.ShloMosaic.TcCoe
open Idealize.SL.Sem

variable {F : FTy → Type} [FloatOps F]
variable (m : (ℓ : Loc nD τ sig) → Buf (Elt F) ℓ)

/-- A buffer that the host's first reshapes do not write holds what it held. -/
theorem W1_keeps (c : Dev nD) (r : Ref sig .tc) (h : r ∉ hostOps0_W) : W1 m c (Proc.devRef .tc r) = V0 m c (Proc.devRef .tc r) :=
  StableHlo.after_of_writes_sub hostOps0 _ hostOps0_writes h
/-- A buffer that no output window of the first kernel backs holds what it held. -/
theorem W2_keeps (c : Dev nD) (r : Ref sig .tc)
    (h : ∀ w, Pipeline.arrRef spec0 w = r → (cfg0.win w).isOut = false) : W2 m c (Proc.devRef .tc r) = W1 m c (Proc.devRef .tc r) :=
  Pipeline.afterRegion_keeps (R0.dat (W1 m) c) (W1 m c) launch0.win.arr_inj (R0.A_eq (W1 m) c) r h
theorem W3_keeps (c : Dev nD) (r : Ref sig .tc)
    (h : ∀ w, Pipeline.arrRef spec1 w = r → (cfg1.win w).isOut = false) : W3 m c (Proc.devRef .tc r) = W2 m c (Proc.devRef .tc r) :=
  Pipeline.afterRegion_keeps (R1.dat (W2 m) c) (W2 m c) launch1.win.arr_inj (R1.A_eq (W2 m) c) r h
theorem W4_keeps (c : Dev nD) (r : Ref sig .tc)
    (h : ∀ w, Pipeline.arrRef spec2 w = r → (cfg2.win w).isOut = false) : W4 m c (Proc.devRef .tc r) = W3 m c (Proc.devRef .tc r) :=
  Pipeline.afterRegion_keeps (R2.dat (W3 m) c) (W3 m c) launch2.win.arr_inj (R2.A_eq (W3 m) c) r h
/-- A buffer that the host's last reshapes do not write holds what it held. -/
theorem W5_keeps (c : Dev nD) (r : Ref sig .tc) (h : r ∉ hostOps3_W) : W5 m c (Proc.devRef .tc r) = W4 m c (Proc.devRef .tc r) :=
  StableHlo.after_of_writes_sub hostOps3 _ hostOps3_writes h

/-- The arguments reach the end as launched. -/
theorem W5_arg (c : Dev nD) (r : Ref sig .tc) (h : r ∈ [main_arg0, main_arg1, main_arg2, main_arg3]) :
    W5 m c (Proc.devRef .tc r) = m ((c.tc : Thread nD τ).loc r) := by
  simp only [List.mem_cons, List.not_mem_nil, or_false] at h
  rcases h with rfl | rfl | rfl | rfl <;>
    exact (W5_keeps m c _ (by decide)).trans ((W4_keeps m c _ (by decide)).trans ((W3_keeps m c _ (by decide)).trans
      ((W2_keeps m c _ (by decide)).trans ((W1_keeps m c _ (by decide)).trans rfl))))

/-- Every execution ends with the arguments as they were and every semaphore at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨(h.1 c _ (Finset.mem_filter.mpr ⟨StableHlo.devRef_mem_tcRefs main_arg0, by decide⟩)).trans (W5_arg m c _ (by decide)),
     (h.1 c _ (Finset.mem_filter.mpr ⟨StableHlo.devRef_mem_tcRefs main_arg1, by decide⟩)).trans (W5_arg m c _ (by decide)),
     (h.1 c _ (Finset.mem_filter.mpr ⟨StableHlo.devRef_mem_tcRefs main_arg2, by decide⟩)).trans (W5_arg m c _ (by decide)),
     (h.1 c _ (Finset.mem_filter.mpr ⟨StableHlo.devRef_mem_tcRefs main_arg3, by decide⟩)).trans (W5_arg m c _ (by decide))⟩, h.2⟩)
    (run m ρ)

end Cert.Kernel.Whole

end
-- ==== Proof.KernelIdeal.Body0.lean ====
/- One grid point of the first kernel: the codes of a block of `x` and the running maximum of its magnitudes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Tactic.Stretches

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinates. -/
abbrev cond (i : grid0.Coords) : Prop := (Scalar.cmpi .ne (Scalar.extui (Scalar.cmpi .eq (BitVec.ofNat 32 (i 0).val) 0#32)) 0#32) = 1#1

/-- It holds at the first point only. -/
theorem hcond : ∀ t : Fin cfg0.N, cond (grid0.coords t) ↔ t.val = 0 :=
  (fun t => by
    have ht : t.val < 12 := Nat.lt_of_lt_of_eq t.isLt N_0
    have e0 : (grid0.coords t 0).val = t.val / 1 % 12 := Pipeline.Grid.coords_val t 0 (by decide) rfl
    simp only [cond, e0]
    rw [show t.val = 0 ↔ t.val % 12 = 0 from by omega]
    word_cmp
   : ∀ t : Fin grid0.N, cond (grid0.coords t) ↔ t.val = 0)

/-- The codes of one block. -/
def codes (x0 : Vec F S3x16 .f32) (x1 : Vec F S256x7168 .bf16) : Vec F S256x7168 .fp8e4m3 :=
  k0_pay5 (k0_pay4 (View.ld x0 (Rect.unit (s := S3x16) ![0, 0] S1x16.size inb_S3x16_S1x16_0_0)) x1)
/-- The block's magnitudes reduced to the accumulator's shape. -/
def blockMax (x1 : Vec F S256x7168 .bf16) : Vec F S16x128 .bf16 :=
  k0_pay8 (k0_pay3 x1) (k0_pay7 (k0_pay3 x1) (k0_pay6 (k0_pay3 x1)))
/-- The running maximum after a block, started at zero where `p` holds. -/
def acc (p : Prop) [Decidable p] (x1 : Vec F S256x7168 .bf16) (x3 : Vec F S16x128 .bf16) : Vec F S16x128 .bf16 :=
  k0_pay2 (blockMax x1) (if p then k0_pay1 (F := F) else x3)

set_option maxHeartbeats 4000000 in
/-- The body: each output block at what it stores, the running values folded in. -/
theorem body (c : Dev nD) (i : grid0.Coords) (arg1 : Memref sig .tc .vmem S3x16 .f32) (harg1 : arg1.IsWhole) (arg2 : Memref sig .tc .vmem S256x7168 .bf16) (harg2 : arg2.IsWhole) (arg3 : Memref sig .tc .vmem S256x7168 .fp8e4m3) (harg3 : arg3.IsWhole) (arg4 : Memref sig .tc .vmem S16x128 .bf16) (harg4 : arg4.IsWhole)
    (x0 : Vec F S3x16 .f32) (x1 : Vec F S256x7168 .bf16) (x3 : Vec F S16x128 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3
        ∗ (iprop(owns (c : Thread nD τ) arg1 fullShare x0
          ∗ owns (c : Thread nD τ) arg2 fullShare x1
          ∗ owns (c : Thread nD τ) arg3 fullShare (codes x0 x1)
          ∗ owns (c : Thread nD τ) arg4 fullShare (acc (cond i) x1 x3)) -∗ K ⟨⟩))
      ⊢ wp frame (wpE (defs₀ (F := F)) Variants.none c none) E (cc0_quant_x i arg1 harg1 arg2 harg2 arg3 harg3 arg4 harg4) K := by
  simp only [cc0_quant_x_eq_skeleton]; unfold cc0_quant_x_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, ⟨%f3, %hf3, H3⟩, Hk⟩
  obtain rfl := harg1.eq_unread hf0; obtain rfl := harg2.eq_unread hf1; obtain rfl := harg4.eq_unread hf3
  have e1 : arg2.view.readAt (Elt F) (Rect.unit (s := S256x7168) ![0, 0] S256x7168.size inb_S256x7168_S256x7168_0_0).toLoadRect (harg2.unread x1) = x1 :=
    (View.readAt_full _ _ _).trans hf1
  have e3 : arg4.view.readAt (Elt F) (Rect.unit (s := S16x128) ![0, 0] ![16, 128] inb_S16x128_S16x128_0_0).toLoadRect (harg4.unread x3) = x3 :=
    (View.readAt_full _ _ _).trans hf3
  have c3 : ∀ p, arg4.view.readCov (Val := Elt F) [⟨Rect.unit (s := S16x128) ![0, 0] ![16, 128] inb_S16x128_S16x128_0_0, p⟩] (Rect.unit (s := S16x128) ![0, 0] ![16, 128] inb_S16x128_S16x128_0_0).toLoadRect = p :=
    fun p => View.readCov_full (s := S16x128) arg4.view _ _ p []
  by_cases hc0 : cond i
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro
      refine (View.read_writes_full ..).trans ?_
      sl_open_run
      simp only [View.readAt_eq_ld, hf0, e1, e3]
      rfl
    iexists _; isplitr; swap; · iexact H3
    ipureintro
    refine (View.read_writes_full ..).trans ?_
    sl_open_run
    unfold acc
    rw [if_pos hc0]
    (try simp only [e1, e3, c3]) <;> rfl
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro
      refine (View.read_writes_full ..).trans ?_
      sl_open_run
      simp only [View.readAt_eq_ld, hf0, e1, e3]
      rfl
    iexists _; isplitr; swap; · iexact H3
    ipureintro
    refine (View.read_writes_full ..).trans ?_
    sl_open_run
    unfold acc
    rw [if_neg hc0]
    (try simp only [e1, e3]) <;> rfl

end Cert.KernelIdeal.R0

end
-- ==== Proof.KernelIdeal.Dat0.lean ====
/- The first kernel's region: what its windows hold point by point, and the body's obligation. -/
module

public import proofs.«01_k».proof.Proof.KernelIdeal.Body0

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first point. -/
abbrev t0 : Fin cfg0.N := ⟨0, by rw [show cfg0.N = 12 from N_0]; decide⟩

/-- The running maximum after the body at position `n`. -/
def accAt (c : Dev nD) : (n : ℕ) → n < cfg0.N → Vec F S16x128 .bf16
  | 0, hn => acc (cond (grid0.coords ⟨0, hn⟩)) (iblk W c 1 ⟨0, hn⟩) (k0_pay1 (F := F))
  | n + 1, hn => acc (cond (grid0.coords ⟨n + 1, hn⟩)) (iblk W c 1 ⟨n + 1, hn⟩) (accAt c n (Nat.lt_of_succ_lt hn))

theorem accAt_step (c : Dev nD) (t : Fin cfg0.N) (d : Vec F S16x128 .bf16)
    (h : t.val ≠ 0 → d = accAt W c (t.val - 1) (Nat.lt_of_le_of_lt (Nat.sub_le _ _) t.isLt)) :
    acc (cond (grid0.coords t)) (iblk W c 1 t) d = accAt W c t.val t.isLt := by
  obtain ⟨n, hn⟩ := t
  cases n with
  | zero =>
    have hc : cond (grid0.coords ⟨0, hn⟩) := (hcond ⟨0, hn⟩).mpr rfl
    unfold accAt acc
    rw [if_pos hc, if_pos hc]
  | succ n => rw [h (Nat.succ_ne_zero n)]; rfl

/-- The proof data: arrays as the region finds them; after the body each input's buffer at its block and each output's as the body leaves it; nothing owed; full shares. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => codes (iblk W c 0 t) (iblk W c 1 t)
    | ⟨3, _⟩ => accAt W c t.val t.isLt
  Φ _ := Pipeline.ΦA spec0 c
  q _ := fullShare
  owed _ := 0

theorem A_eq (c : Dev nD) (w : Fin cfg0.W) : (dat W c).A w = W c (Proc.devRef .tc (Pipeline.arrRef spec0 w)) := by
  dsimp only [dat]
theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = codes (iblk W c 0 t) (iblk W c 1 t) := by dsimp only [dat]
theorem after_3 (c : Dev nD) (t : Fin cfg0.N) : (dat W c).after 3 t = accAt W c t.val t.isLt := by dsimp only [dat]

/-- Each input's buffer holds its block at every point, fetched there or not. -/
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Past the first point a kept output's buffer holds what the point before left. -/
theorem before_3 (c : Dev nD) (t : Fin cfg0.N) (h0 : t.val ≠ 0) (d) : (dat W c).before 3 t d = accAt W c (t.val - 1) (Nat.lt_of_le_of_lt (Nat.sub_le _ _) t.isLt) := by
  have hN : t.val < 12 := lt_of_lt_of_eq t.isLt (show cfg0.N = 12 from N_0)
  rw [Dat.before_out_kept _ 3 rfl t (by omega) (Bool.eq_false_iff.mpr fun h => by have := (flush0_3 _).mp h; dsimp only at this; omega)
    (fun _ => rfl) (fun _ _ => rfl)]
  dsimp only [dat]

set_option maxHeartbeats 1600000 in
/-- The body at any point. -/
theorem sound_body (c : Dev nD) (t : Fin cfg0.N) :
    iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d)))
    ⊢ wp frame (wpE (defs₀ (F := F)) Variants.none c none) Set.univ (bodyAt0 t) (fun _ => iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t))) := by
  unfold bodyAt0
  simp only [before_0, before_1]
  rw [show (dat W c).Φ t.succ = (dat W c).Φ t.castSucc from rfl,
    show (dat W c).owesAt () t.succ = (dat W c).owesAt () t.castSucc from rfl,
    after_0, after_1, after_2, after_3]
  iintro ⟨HΦ, Ho, ⟨%d0, H0⟩, ⟨%d1, H1⟩, ⟨%d2, H2⟩, ⟨%d3, H3⟩⟩
  rw [← accAt_step W c t ((dat W c).before 3 t d3) (fun h => before_3 W c t h d3)]
  iapply (body c (grid0.coords t) _ _ _ _ _ _ _ _ (iblk W c 0 t) (iblk W c 1 t) ((dat W c).before 3 t d3) Set.univ _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.R0

end
-- ==== Proof.KernelIdeal.Body1.lean ====
/- One grid point of the second kernel: the codes of a block of the weight and of `dy`, their running maxima, and the block's two products. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Tactic.Stretches

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinates. -/
abbrev cond (i : grid1.Coords) : Prop := (Scalar.cmpi .ne (Scalar.extui (Scalar.cmpi .eq (BitVec.ofNat 32 (i 0).val) 0#32)) 0#32) = 1#1

/-- It holds at the first point only. -/
theorem hcond : ∀ t : Fin cfg1.N, cond (grid1.coords t) ↔ t.val = 0 :=
  (fun t => by
    have ht : t.val < 36 := Nat.lt_of_lt_of_eq t.isLt N_1
    have e0 : (grid1.coords t 0).val = t.val / 1 % 36 := Pipeline.Grid.coords_val t 0 (by decide) rfl
    simp only [cond, e0]
    rw [show t.val = 0 ↔ t.val % 36 = 0 from by omega]
    word_cmp
   : ∀ t : Fin grid1.N, cond (grid1.coords t) ↔ t.val = 0)

/-- The scale of `x`, and the scale and inverse of the weight's and of `dy`'s, from the history's rows. -/
def xScale (x0 : Vec F S3x16 .f32) : FVec F S1x1 .f32 := k1_pay2 (View.ld x0 (Rect.unit (s := S3x16) ![0, 0] S1x16.size inb_S3x16_S1x16_0_0))
def wScale (x0 : Vec F S3x16 .f32) : FVec F S1x1 .f32 := k1_pay6 (k1_pay3 (View.ld x0 (Rect.unit (s := S3x16) ![1, 0] S1x16.size inb_S3x16_S1x16_1_0))) (k1_pay4 (F := F)) (Scalar.ofBits .f32 0x3B124925#32)
def wInv (x0 : Vec F S3x16 .f32) : FVec F S1x1 .f32 := k1_pay7 (k1_pay3 (View.ld x0 (Rect.unit (s := S3x16) ![1, 0] S1x16.size inb_S3x16_S1x16_1_0))) (k1_pay4 (F := F)) (Scalar.ofBits .f32 0x3B124925#32)
def dyScale (x0 : Vec F S3x16 .f32) : FVec F S1x1 .f32 := k1_pay10 (k1_pay8 (View.ld x0 (Rect.unit (s := S3x16) ![2, 0] S1x16.size inb_S3x16_S1x16_2_0)))
def dyInv (x0 : Vec F S3x16 .f32) : FVec F S1x1 .f32 := k1_pay11 (k1_pay8 (View.ld x0 (Rect.unit (s := S3x16) ![2, 0] S1x16.size inb_S3x16_S1x16_2_0)))
/-- The codes of a block of the weight. -/
def wCodes (x0 : Vec F S3x16 .f32) (x2 : Vec F S256x7168 .bf16) : Vec F S256x7168 .fp8e4m3 := k1_pay20 (wInv x0) x2
/-- The codes of a block of `dy`. -/
def dyCodes (x0 : Vec F S3x16 .f32) (x3 : Vec F S3072x256 .bf16) : Vec F S3072x256 .fp8e5m2 := k1_pay25 (dyInv x0) (k1_pay21 x3)
/-- The block's columns of `y`. -/
def yBlock (x0 : Vec F S3x16 .f32) (x1 : Vec F S3072x7168 .fp8e4m3) (x2 : Vec F S256x7168 .bf16) : Vec F S3072x256 .bf16 :=
  k1_pay26 (xScale x0) (wScale x0) x1 (wCodes x0 x2)
/-- The block's rows of the weight's gradient. -/
def dwBlock (x0 : Vec F S3x16 .f32) (x1 : Vec F S3072x7168 .fp8e4m3) (x3 : Vec F S3072x256 .bf16) : Vec F S256x7168 .f32 :=
  k1_pay1 (xScale x0) (dyScale x0) (k1_pay27 (dyCodes x0 x3) x1)
/-- The running maximum of the weight's magnitudes after a block, started at zero where `p` holds. -/
def wAcc (p : Prop) [Decidable p] (x2 : Vec F S256x7168 .bf16) (x8 : Vec F S16x128 .bf16) : Vec F S16x128 .bf16 :=
  k1_pay19 x2 (k1_pay16 x2 (k1_pay14 x2 (k1_pay12 x2) (k1_pay13 x2)) (k1_pay15 x2)) (k1_pay17 x2) (if p then k1_pay18 (F := F) else x8)
/-- The running maximum of `dy`'s magnitudes after a block, started at zero where `p` holds. -/
def dyAcc (p : Prop) [Decidable p] (x3 : Vec F S3072x256 .bf16) (x9 : Vec F S16x128 .bf16) : Vec F S16x128 .bf16 :=
  k1_pay24 (k1_pay22 x3) (if p then k1_pay23 (F := F) else x9)

set_option maxHeartbeats 4000000 in
/-- The body: each output block at what it stores, the running values folded in. -/
theorem body (c : Dev nD) (i : grid1.Coords) (arg1 : Memref sig .tc .vmem S3x16 .f32) (harg1 : arg1.IsWhole) (arg2 : Memref sig .tc .vmem S3072x7168 .fp8e4m3) (harg2 : arg2.IsWhole) (arg3 : Memref sig .tc .vmem S256x7168 .bf16) (harg3 : arg3.IsWhole) (arg4 : Memref sig .tc .vmem S3072x256 .bf16) (harg4 : arg4.IsWhole) (arg5 : Memref sig .tc .vmem S3072x256 .bf16) (harg5 : arg5.IsWhole) (arg6 : Memref sig .tc .vmem S256x7168 .f32) (harg6 : arg6.IsWhole) (arg7 : Memref sig .tc .vmem S256x7168 .fp8e4m3) (harg7 : arg7.IsWhole) (arg8 : Memref sig .tc .vmem S3072x256 .fp8e5m2) (harg8 : arg8.IsWhole) (arg9 : Memref sig .tc .vmem S16x128 .bf16) (harg9 : arg9.IsWhole) (arg10 : Memref sig .tc .vmem S16x128 .bf16) (harg10 : arg10.IsWhole)
    (x0 : Vec F S3x16 .f32) (x1 : Vec F S3072x7168 .fp8e4m3) (x2 : Vec F S256x7168 .bf16) (x3 : Vec F S3072x256 .bf16) (x8 : Vec F S16x128 .bf16) (x9 : Vec F S16x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x8 ∗ owns (c : Thread nD τ) arg10 fullShare x9
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare (yBlock x0 x1 x2)
          ∗ owns (c : Thread nD τ) arg6 fullShare (dwBlock x0 x1 x3)
          ∗ owns (c : Thread nD τ) arg7 fullShare (wCodes x0 x2)
          ∗ owns (c : Thread nD τ) arg8 fullShare (dyCodes x0 x3)
          ∗ owns (c : Thread nD τ) arg9 fullShare (wAcc (cond i) x2 x8)
          ∗ owns (c : Thread nD τ) arg10 fullShare (dyAcc (cond i) x3 x9)) -∗ K ⟨⟩))
      ⊢ wp frame (wpE (defs₀ (F := F)) Variants.none c none) E (cc1_y_dw i arg1 harg1 arg2 harg2 arg3 harg3 arg4 harg4 arg5 harg5 arg6 harg6 arg7 harg7 arg8 harg8 arg9 harg9 arg10 harg10) K := by
  simp only [cc1_y_dw_eq_skeleton]; unfold cc1_y_dw_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg9.eq_unread hf8; obtain rfl := harg10.eq_unread hf9
  have e1 : arg2.view.readAt (Elt F) (Rect.unit (s := S3072x7168) ![0, 0] S3072x7168.size inb_S3072x7168_S3072x7168_0_0).toLoadRect (harg2.unread x1) = x1 :=
    (View.readAt_full _ _ _).trans hf1
  have e2 : arg3.view.readAt (Elt F) (Rect.unit (s := S256x7168) ![0, 0] S256x7168.size inb_S256x7168_S256x7168_0_0).toLoadRect (harg3.unread x2) = x2 :=
    (View.readAt_full _ _ _).trans hf2
  have e3 : arg4.view.readAt (Elt F) (Rect.unit (s := S3072x256) ![0, 0] S3072x256.size inb_S3072x256_S3072x256_0_0).toLoadRect (harg4.unread x3) = x3 :=
    (View.readAt_full _ _ _).trans hf3
  have e8 : arg9.view.readAt (Elt F) (Rect.unit (s := S16x128) ![0, 0] ![16, 128] inb_S16x128_S16x128_0_0).toLoadRect (harg9.unread x8) = x8 :=
    (View.readAt_full _ _ _).trans hf8
  have e9 : arg10.view.readAt (Elt F) (Rect.unit (s := S16x128) ![0, 0] ![16, 128] inb_S16x128_S16x128_0_0).toLoadRect (harg10.unread x9) = x9 :=
    (View.readAt_full _ _ _).trans hf9
  have c6 : ∀ p, arg7.view.readCov (Val := Elt F) [⟨Rect.unit (s := S256x7168) ![0, 0] ![256, 7168] inb_S256x7168_S256x7168_0_0, p⟩] (Rect.unit (s := S256x7168) ![0, 0] ![256, 7168] inb_S256x7168_S256x7168_0_0).toLoadRect = p :=
    fun p => View.readCov_full (s := S256x7168) arg7.view _ _ p []
  have c7 : ∀ p, arg8.view.readCov (Val := Elt F) [⟨Rect.unit (s := S3072x256) ![0, 0] ![3072, 256] inb_S3072x256_S3072x256_0_0, p⟩] (Rect.unit (s := S3072x256) ![0, 0] ![3072, 256] inb_S3072x256_S3072x256_0_0).toLoadRect = p :=
    fun p => View.readCov_full (s := S3072x256) arg8.view _ _ p []
  have c8 : ∀ p, arg9.view.readCov (Val := Elt F) [⟨Rect.unit (s := S16x128) ![0, 0] ![16, 128] inb_S16x128_S16x128_0_0, p⟩] (Rect.unit (s := S16x128) ![0, 0] ![16, 128] inb_S16x128_S16x128_0_0).toLoadRect = p :=
    fun p => View.readCov_full (s := S16x128) arg9.view _ _ p []
  have c9 : ∀ p, arg10.view.readCov (Val := Elt F) [⟨Rect.unit (s := S16x128) ![0, 0] ![16, 128] inb_S16x128_S16x128_0_0, p⟩] (Rect.unit (s := S16x128) ![0, 0] ![16, 128] inb_S16x128_S16x128_0_0).toLoadRect = p :=
    fun p => View.readCov_full (s := S16x128) arg10.view _ _ p []
  by_cases hc0 : cond i
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      refine (View.read_writes_full ..).trans ?_
      sl_open_run
      simp only [View.readAt_eq_ld, hf0, e1, e2, e3, e8, e9, c6, c7]
      rfl
    isplitl [H5]
    · iexists _; isplitr; swap; · iexact H5
      ipureintro
      refine (View.read_writes_full ..).trans ?_
      sl_open_run
      simp only [View.readAt_eq_ld, hf0, e1, e2, e3, e8, e9, c6, c7]
      rfl
    isplitl [H6]
    · iexists _; isplitr; swap; · iexact H6
      ipureintro
      refine (View.read_writes_full ..).trans ?_
      sl_open_run
      simp only [View.readAt_eq_ld, hf0, e1, e2, e3, e8, e9, c6, c7]
      rfl
    isplitl [H7]
    · iexists _; isplitr; swap; · iexact H7
      ipureintro
      refine (View.read_writes_full ..).trans ?_
      sl_open_run
      simp only [View.readAt_eq_ld, hf0, e1, e2, e3, e8, e9, c6, c7]
      rfl
    isplitl [H8]
    · iexists _; isplitr; swap; · iexact H8
      ipureintro
      refine (View.read_writes_full ..).trans ?_
      sl_open_run
      unfold wAcc
      rw [if_pos hc0]
    iexists _; isplitr; swap; · iexact H9
    ipureintro
    refine (View.read_writes_full ..).trans ?_
    sl_open_run
    unfold dyAcc
    rw [if_pos hc0]
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      refine (View.read_writes_full ..).trans ?_
      sl_open_run
      simp only [View.readAt_eq_ld, hf0, e1, e2, e3, e8, e9, c6, c7]
      rfl
    isplitl [H5]
    · iexists _; isplitr; swap; · iexact H5
      ipureintro
      refine (View.read_writes_full ..).trans ?_
      sl_open_run
      simp only [View.readAt_eq_ld, hf0, e1, e2, e3, e8, e9, c6, c7]
      rfl
    isplitl [H6]
    · iexists _; isplitr; swap; · iexact H6
      ipureintro
      refine (View.read_writes_full ..).trans ?_
      sl_open_run
      simp only [View.readAt_eq_ld, hf0, e1, e2, e3, e8, e9, c6, c7]
      rfl
    isplitl [H7]
    · iexists _; isplitr; swap; · iexact H7
      ipureintro
      refine (View.read_writes_full ..).trans ?_
      sl_open_run
      simp only [View.readAt_eq_ld, hf0, e1, e2, e3, e8, e9, c6, c7]
      rfl
    isplitl [H8]
    · iexists _; isplitr; swap; · iexact H8
      ipureintro
      refine (View.read_writes_full ..).trans ?_
      sl_open_run
      unfold wAcc
      rw [if_neg hc0]
    iexists _; isplitr; swap; · iexact H9
    ipureintro
    refine (View.read_writes_full ..).trans ?_
    sl_open_run
    unfold dyAcc
    rw [if_neg hc0]

end Cert.KernelIdeal.R1

end
-- ==== Proof.KernelIdeal.Dat1.lean ====
/- The second kernel's region: what its windows hold point by point, and the body's obligation. -/
module

public import proofs.«01_k».proof.Proof.KernelIdeal.Body1

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first point. -/
abbrev t0 : Fin cfg1.N := ⟨0, by rw [show cfg1.N = 36 from N_1]; decide⟩

/-- The weight's running maximum after the body at position `n`. -/
def wAccAt (c : Dev nD) : (n : ℕ) → n < cfg1.N → Vec F S16x128 .bf16
  | 0, hn => wAcc (cond (grid1.coords ⟨0, hn⟩)) (iblk W c 2 ⟨0, hn⟩) (k1_pay18 (F := F))
  | n + 1, hn => wAcc (cond (grid1.coords ⟨n + 1, hn⟩)) (iblk W c 2 ⟨n + 1, hn⟩) (wAccAt c n (Nat.lt_of_succ_lt hn))

theorem wAccAt_step (c : Dev nD) (t : Fin cfg1.N) (d : Vec F S16x128 .bf16)
    (h : t.val ≠ 0 → d = wAccAt W c (t.val - 1) (Nat.lt_of_le_of_lt (Nat.sub_le _ _) t.isLt)) :
    wAcc (cond (grid1.coords t)) (iblk W c 2 t) d = wAccAt W c t.val t.isLt := by
  obtain ⟨n, hn⟩ := t
  cases n with
  | zero =>
    have hc : cond (grid1.coords ⟨0, hn⟩) := (hcond ⟨0, hn⟩).mpr rfl
    unfold wAccAt wAcc
    rw [if_pos hc, if_pos hc]
  | succ n => rw [h (Nat.succ_ne_zero n)]; rfl

/-- The running maximum of `dy` after the body at position `n`. -/
def dyAccAt (c : Dev nD) : (n : ℕ) → n < cfg1.N → Vec F S16x128 .bf16
  | 0, hn => dyAcc (cond (grid1.coords ⟨0, hn⟩)) (iblk W c 3 ⟨0, hn⟩) (k1_pay23 (F := F))
  | n + 1, hn => dyAcc (cond (grid1.coords ⟨n + 1, hn⟩)) (iblk W c 3 ⟨n + 1, hn⟩) (dyAccAt c n (Nat.lt_of_succ_lt hn))

theorem dyAccAt_step (c : Dev nD) (t : Fin cfg1.N) (d : Vec F S16x128 .bf16)
    (h : t.val ≠ 0 → d = dyAccAt W c (t.val - 1) (Nat.lt_of_le_of_lt (Nat.sub_le _ _) t.isLt)) :
    dyAcc (cond (grid1.coords t)) (iblk W c 3 t) d = dyAccAt W c t.val t.isLt := by
  obtain ⟨n, hn⟩ := t
  cases n with
  | zero =>
    have hc : cond (grid1.coords ⟨0, hn⟩) := (hcond ⟨0, hn⟩).mpr rfl
    unfold dyAccAt dyAcc
    rw [if_pos hc, if_pos hc]
  | succ n => rw [h (Nat.succ_ne_zero n)]; rfl

/-- The proof data: arrays as the region finds them; after the body each input's buffer at its block and each output's as the body leaves it; nothing owed; full shares. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => yBlock (iblk W c 0 t) (iblk W c 1 t) (iblk W c 2 t)
    | ⟨5, _⟩ => dwBlock (iblk W c 0 t) (iblk W c 1 t) (iblk W c 3 t)
    | ⟨6, _⟩ => wCodes (iblk W c 0 t) (iblk W c 2 t)
    | ⟨7, _⟩ => dyCodes (iblk W c 0 t) (iblk W c 3 t)
    | ⟨8, _⟩ => wAccAt W c t.val t.isLt
    | ⟨9, _⟩ => dyAccAt W c t.val t.isLt
  Φ _ := Pipeline.ΦA spec1 c
  q _ := fullShare
  owed _ := 0

theorem A_eq (c : Dev nD) (w : Fin cfg1.W) : (dat W c).A w = W c (Proc.devRef .tc (Pipeline.arrRef spec1 w)) := by
  dsimp only [dat]
theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = yBlock (iblk W c 0 t) (iblk W c 1 t) (iblk W c 2 t) := by dsimp only [dat]
theorem after_5 (c : Dev nD) (t : Fin cfg1.N) : (dat W c).after 5 t = dwBlock (iblk W c 0 t) (iblk W c 1 t) (iblk W c 3 t) := by dsimp only [dat]
theorem after_6 (c : Dev nD) (t : Fin cfg1.N) : (dat W c).after 6 t = wCodes (iblk W c 0 t) (iblk W c 2 t) := by dsimp only [dat]
theorem after_7 (c : Dev nD) (t : Fin cfg1.N) : (dat W c).after 7 t = dyCodes (iblk W c 0 t) (iblk W c 3 t) := by dsimp only [dat]
theorem after_8 (c : Dev nD) (t : Fin cfg1.N) : (dat W c).after 8 t = wAccAt W c t.val t.isLt := by dsimp only [dat]
theorem after_9 (c : Dev nD) (t : Fin cfg1.N) : (dat W c).after 9 t = dyAccAt W c t.val t.isLt := by dsimp only [dat]

/-- Each input's buffer holds its block at every point, fetched there or not. -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Past the first point a kept output's buffer holds what the point before left. -/
theorem before_8 (c : Dev nD) (t : Fin cfg1.N) (h0 : t.val ≠ 0) (d) : (dat W c).before 8 t d = wAccAt W c (t.val - 1) (Nat.lt_of_le_of_lt (Nat.sub_le _ _) t.isLt) := by
  have hN : t.val < 36 := lt_of_lt_of_eq t.isLt (show cfg1.N = 36 from N_1)
  rw [Dat.before_out_kept _ 8 rfl t (by omega) (Bool.eq_false_iff.mpr fun h => by have := (flush1_8 _).mp h; dsimp only at this; omega)
    (fun _ => rfl) (fun _ _ => rfl)]
  dsimp only [dat]
theorem before_9 (c : Dev nD) (t : Fin cfg1.N) (h0 : t.val ≠ 0) (d) : (dat W c).before 9 t d = dyAccAt W c (t.val - 1) (Nat.lt_of_le_of_lt (Nat.sub_le _ _) t.isLt) := by
  have hN : t.val < 36 := lt_of_lt_of_eq t.isLt (show cfg1.N = 36 from N_1)
  rw [Dat.before_out_kept _ 9 rfl t (by omega) (Bool.eq_false_iff.mpr fun h => by have := (flush1_9 _).mp h; dsimp only at this; omega)
    (fun _ => rfl) (fun _ _ => rfl)]
  dsimp only [dat]

set_option maxHeartbeats 1600000 in
/-- The body at any point. -/
theorem sound_body (c : Dev nD) (t : Fin cfg1.N) :
    iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d))
    ∗ (∃ d, owns (c : Thread nD τ) (st1_7 t) fullShare ((dat W c).before 7 t d))
    ∗ (∃ d, owns (c : Thread nD τ) (st1_8 t) fullShare ((dat W c).before 8 t d))
    ∗ (∃ d, owns (c : Thread nD τ) (st1_9 t) fullShare ((dat W c).before 9 t d)))
    ⊢ wp frame (wpE (defs₀ (F := F)) Variants.none c none) Set.univ (bodyAt1 t) (fun _ => iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t)
    ∗ owns (c : Thread nD τ) (st1_7 t) fullShare ((dat W c).after 7 t)
    ∗ owns (c : Thread nD τ) (st1_8 t) fullShare ((dat W c).after 8 t)
    ∗ owns (c : Thread nD τ) (st1_9 t) fullShare ((dat W c).after 9 t))) := by
  unfold bodyAt1
  simp only [before_0, before_1, before_2, before_3]
  rw [show (dat W c).Φ t.succ = (dat W c).Φ t.castSucc from rfl,
    show (dat W c).owesAt () t.succ = (dat W c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← wAccAt_step W c t ((dat W c).before 8 t d8) (fun h => before_8 W c t h d8), ← dyAccAt_step W c t ((dat W c).before 9 t d9) (fun h => before_9 W c t h d9)]
  iapply (body c (grid1.coords t) _ _ _ _ _ _ _ _ _ _ _ _ _ _ _ _ _ _ _ _ (iblk W c 0 t) (iblk W c 1 t) (iblk W c 2 t) (iblk W c 3 t) ((dat W c).before 8 t d8) ((dat W c).before 9 t d9) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body there. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.KernelIdeal.R1

end
-- ==== Proof.KernelIdeal.Body2.lean ====
/- One grid point of the third kernel: the block's columns of the input's gradient; at the first point also the next history and the three scales. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Tactic.Stretches

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinates. -/
abbrev cond (i : grid2.Coords) : Prop := k2_cond1 i = 1#1

/-- It holds at the first point only. -/
theorem hcond : ∀ t : Fin cfg2.N, cond (grid2.coords t) ↔ t.val = 0 :=
  (fun t => by
    have ht : t.val < 14 := Nat.lt_of_lt_of_eq t.isLt N_2
    have e0 : (grid2.coords t 0).val = t.val / 1 % 14 := Pipeline.Grid.coords_val t 0 (by decide) rfl
    simp only [cond, k2_cond1, e0]
    rw [show t.val = 0 ↔ t.val % 14 = 0 from by omega]
    word_cmp
   : ∀ t : Fin grid2.N, cond (grid2.coords t) ↔ t.val = 0)

/-- The scale of `x`, of the weight and of `dy` from the history's rows. -/
def xScale (x0 : Vec F S3x16 .f32) : FVec F S1x1 .f32 := k2_pay10 (View.ld x0 (Rect.unit (s := S3x16) ![0, 0] S1x16.size inb_S3x16_S1x16_0_0))
def wScale (x0 : Vec F S3x16 .f32) : FVec F S1x1 .f32 := k2_pay13 (k2_pay11 (View.ld x0 (Rect.unit (s := S3x16) ![1, 0] S1x16.size inb_S3x16_S1x16_1_0))) (k2_pay12 (F := F)) (Scalar.ofBits .f32 0x3B124925#32)
/-- The block's columns of the input's gradient. -/
def dxBlock (x0 : Vec F S3x16 .f32) (x4 : Vec F S3072x9216 .fp8e5m2) (x5 : Vec F S9216x512 .fp8e4m3) : Vec F S3072x512 .bf16 :=
  k2_pay2 (wScale x0) (k2_pay14 (View.ld x0 (Rect.unit (s := S3x16) ![2, 0] S1x16.size inb_S3x16_S1x16_2_0))) (k2_pay15 (View.ld x0 (Rect.unit (s := S3x16) ![2, 0] S1x16.size inb_S3x16_S1x16_2_0))) x4 x5
/-- An index of a three-row array lies in one of its rows. -/
theorem row_cases (n : ℕ) (y : (⟨2, ![3, n]⟩ : Shape).Idx) : (y 0).val = 0 ∨ (y 0).val = 1 ∨ (y 0).val = 2 := by
  have h : (y 0).val < 3 := (y 0).isLt
  omega

/-- The six pieces of the next history hold every index. -/
theorem histCover (p20 : Vec F S1x1 .f32) (p21 : Vec F S1x15 .f32) (p10 : Vec F S1x1 .f32) (p11 : Vec F S1x15 .f32) (p00 : Vec F S1x1 .f32) (p01 : Vec F S1x15 .f32) (y : S3x16.Idx) :
    ∃ p ∈ ([⟨Rect.unit (s := S3x16) ![2, 0] S1x1.size inb_S3x16_S1x1_2_0, p20⟩, ⟨Rect.unit (s := S3x16) ![2, 1] S1x15.size inb_S3x16_S1x15_2_1, p21⟩,
      ⟨Rect.unit (s := S3x16) ![1, 0] S1x1.size inb_S3x16_S1x1_1_0, p10⟩, ⟨Rect.unit (s := S3x16) ![1, 1] S1x15.size inb_S3x16_S1x15_1_1, p11⟩,
      ⟨Rect.unit (s := S3x16) ![0, 0] S1x1.size inb_S3x16_S1x1_0_0, p00⟩, ⟨Rect.unit (s := S3x16) ![0, 1] S1x15.size inb_S3x16_S1x15_0_1, p01⟩] : List (View.Piece (Elt F) S3x16 .f32)), y ∈ p.1.set := by
  have h1 : (y 1).val < 16 := (y 1).isLt
  simp only [List.exists_mem_cons_iff, Rect.mem_set_unit, Fin.forall_fin_two, Matrix.cons_val_zero, Matrix.cons_val_one]
  rcases row_cases 16 y with h | h | h <;> rcases Nat.eq_zero_or_pos (y 1).val with h0 | h0 <;> simp [h, h0] <;> omega

/-- The three rows of the scales hold every index. -/
theorem scaleCover (p2 p1 p0 : Vec F S1x128 .f32) (y : S3x128.Idx) :
    ∃ p ∈ ([⟨Rect.unit (s := S3x128) ![2, 0] S1x128.size inb_S3x128_S1x128_2_0, p2⟩, ⟨Rect.unit (s := S3x128) ![1, 0] S1x128.size inb_S3x128_S1x128_1_0, p1⟩,
      ⟨Rect.unit (s := S3x128) ![0, 0] S1x128.size inb_S3x128_S1x128_0_0, p0⟩] : List (View.Piece (Elt F) S3x128 .f32)), y ∈ p.1.set := by
  have h1 : (y 1).val < 128 := (y 1).isLt
  simp only [List.exists_mem_cons_iff, Rect.mem_set_unit, Fin.forall_fin_two, Matrix.cons_val_zero, Matrix.cons_val_one]
  rcases row_cases 128 y with h | h | h <;> simp [h] <;> omega

/-- The next history: each row moved by one, the new maximum in front. -/
def newHist (x0 : Vec F S3x16 .f32) (x1 x2 x3 : Vec F S16x128 .bf16) : Vec F S3x16 .f32 := View.canon (Val := Elt F) (e := .f32)
  [⟨Rect.unit (s := S3x16) ![2, 0] S1x1.size inb_S3x16_S1x1_2_0, k2_pay3 (k2_pay9 x3)⟩, ⟨Rect.unit (s := S3x16) ![2, 1] S1x15.size inb_S3x16_S1x15_2_1, View.ld x0 (Rect.unit (s := S3x16) ![2, 0] S1x15.size inb_S3x16_S1x15_2_0)⟩,
   ⟨Rect.unit (s := S3x16) ![1, 0] S1x1.size inb_S3x16_S1x1_1_0, k2_pay7 x2⟩, ⟨Rect.unit (s := S3x16) ![1, 1] S1x15.size inb_S3x16_S1x15_1_1, View.ld x0 (Rect.unit (s := S3x16) ![1, 0] S1x15.size inb_S3x16_S1x15_1_0)⟩,
   ⟨Rect.unit (s := S3x16) ![0, 0] S1x1.size inb_S3x16_S1x1_0_0, k2_pay5 x1⟩, ⟨Rect.unit (s := S3x16) ![0, 1] S1x15.size inb_S3x16_S1x15_0_1, View.ld x0 (Rect.unit (s := S3x16) ![0, 0] S1x15.size inb_S3x16_S1x15_0_0)⟩]
/-- The three scales, one row each. -/
def scales (x0 : Vec F S3x16 .f32) : Vec F S3x128 .f32 := View.canon (Val := Elt F) (e := .f32)
  [⟨Rect.unit (s := S3x128) ![2, 0] S1x128.size inb_S3x128_S1x128_2_0, k2_pay4 (F := F) (k2_pay14 (View.ld x0 (Rect.unit (s := S3x16) ![2, 0] S1x16.size inb_S3x16_S1x16_2_0))) (k2_pay15 (View.ld x0 (Rect.unit (s := S3x16) ![2, 0] S1x16.size inb_S3x16_S1x16_2_0)))⟩,
   ⟨Rect.unit (s := S3x128) ![1, 0] S1x128.size inb_S3x128_S1x128_1_0, k2_pay8 (wScale x0)⟩,
   ⟨Rect.unit (s := S3x128) ![0, 0] S1x128.size inb_S3x128_S1x128_0_0, k2_pay6 (xScale x0)⟩]

set_option maxHeartbeats 4000000 in
/-- The body: each output block at what it stores, the running values folded in. -/
theorem body (c : Dev nD) (i : grid2.Coords) (arg1 : Memref sig .tc .vmem S3x16 .f32) (harg1 : arg1.IsWhole) (arg2 : Memref sig .tc .vmem S16x128 .bf16) (harg2 : arg2.IsWhole) (arg3 : Memref sig .tc .vmem S16x128 .bf16) (harg3 : arg3.IsWhole) (arg4 : Memref sig .tc .vmem S16x128 .bf16) (harg4 : arg4.IsWhole) (arg5 : Memref sig .tc .vmem S3072x9216 .fp8e5m2) (harg5 : arg5.IsWhole) (arg6 : Memref sig .tc .vmem S9216x512 .fp8e4m3) (harg6 : arg6.IsWhole) (arg7 : Memref sig .tc .vmem S3072x512 .bf16) (harg7 : arg7.IsWhole) (arg8 : Memref sig .tc .vmem S3x16 .f32) (harg8 : arg8.IsWhole) (arg9 : Memref sig .tc .vmem S3x128 .f32) (harg9 : arg9.IsWhole)
    (x0 : Vec F S3x16 .f32) (x1 : Vec F S16x128 .bf16) (x2 : Vec F S16x128 .bf16) (x3 : Vec F S16x128 .bf16) (x4 : Vec F S3072x9216 .fp8e5m2) (x5 : Vec F S9216x512 .fp8e4m3) (x7 : Vec F S3x16 .f32) (x8 : Vec F S3x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare (dxBlock x0 x4 x5)
          ∗ owns (c : Thread nD τ) arg8 fullShare (if cond i then newHist x0 x1 x2 x3 else x7)
          ∗ owns (c : Thread nD τ) arg9 fullShare (if cond i then scales x0 else x8)) -∗ K ⟨⟩))
      ⊢ wp frame (wpE (defs₀ (F := F)) Variants.none c none) E (cc2_dx i arg1 harg1 arg2 harg2 arg3 harg3 arg4 harg4 arg5 harg5 arg6 harg6 arg7 harg7 arg8 harg8 arg9 harg9) K := by
  simp only [cc2_dx_eq_skeleton]; unfold cc2_dx_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
  have e1 : arg2.view.readAt (Elt F) (Rect.unit (s := S16x128) ![0, 0] ![16, 128] inb_S16x128_S16x128_0_0).toLoadRect (harg2.unread x1) = x1 :=
    (View.readAt_full _ _ _).trans hf1
  have e2 : arg3.view.readAt (Elt F) (Rect.unit (s := S16x128) ![0, 0] ![16, 128] inb_S16x128_S16x128_0_0).toLoadRect (harg3.unread x2) = x2 :=
    (View.readAt_full _ _ _).trans hf2
  have e3 : arg4.view.readAt (Elt F) (Rect.unit (s := S16x128) ![0, 0] ![16, 128] inb_S16x128_S16x128_0_0).toLoadRect (harg4.unread x3) = x3 :=
    (View.readAt_full _ _ _).trans hf3
  have e4 : arg5.view.readAt (Elt F) (Rect.unit (s := S3072x9216) ![0, 0] S3072x9216.size inb_S3072x9216_S3072x9216_0_0).toLoadRect (harg5.unread x4) = x4 :=
    (View.readAt_full _ _ _).trans hf4
  have e5 : arg6.view.readAt (Elt F) (Rect.unit (s := S9216x512) ![0, 0] S9216x512.size inb_S9216x512_S9216x512_0_0).toLoadRect (harg6.unread x5) = x5 :=
    (View.readAt_full _ _ _).trans hf5
  by_cases hc0 : cond i
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      refine (View.read_writes_full ..).trans ?_
      sl_open_run
      simp only [View.readAt_eq_ld, hf0, e1, e2, e3, e4, e5]
      rfl
    isplitl [H7]
    · iexists _; isplitr; swap; · iexact H7
      ipureintro
      rw [if_pos hc0]
      refine (View.read_writes_eq_canon _ _ _ (histCover _ _ _ _ _ _)).trans ?_
      sl_open_run
      simp only [View.readAt_eq_ld, hf0, e1, e2, e3, e4, e5]
      rfl
    iexists _; isplitr; swap; · iexact H8
    ipureintro
    rw [if_pos hc0]
    refine (View.read_writes_eq_canon _ _ _ (scaleCover _ _ _)).trans ?_
    sl_open_run
    simp only [View.readAt_eq_ld, hf0, e1, e2, e3, e4, e5]
    rfl
  · sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      refine (View.read_writes_full ..).trans ?_
      sl_open_run
      simp only [View.readAt_eq_ld, hf0, e1, e2, e3, e4, e5]
      rfl
    isplitl [H7]
    · iexists _; isplitr; swap; · iexact H7
      ipureintro
      rw [if_neg hc0]
      exact hf7
    iexists _; isplitr; swap; · iexact H8
    ipureintro
    rw [if_neg hc0]
    exact hf8

end Cert.KernelIdeal.R2

end
-- ==== Proof.KernelIdeal.Dat2.lean ====
/- The third kernel's region: what its windows hold point by point, and the body's obligation. -/
module

public import proofs.«01_k».proof.Proof.KernelIdeal.Body2

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The first point. -/
abbrev t0 : Fin cfg2.N := ⟨0, by rw [show cfg2.N = 14 from N_2]; decide⟩

/-- The next history and the scales, as the first point writes them. -/
def histOut (c : Dev nD) : Vec F S3x16 .f32 := newHist (iblk W c 0 t0) (iblk W c 1 t0) (iblk W c 2 t0) (iblk W c 3 t0)
def scaleOut (c : Dev nD) : Vec F S3x128 .f32 := scales (iblk W c 0 t0)

theorem histOut_step (c : Dev nD) (t : Fin cfg2.N) (d : Vec F S3x16 .f32) (h : t.val ≠ 0 → d = histOut W c) :
    (if cond (grid2.coords t) then newHist (iblk W c 0 t) (iblk W c 1 t) (iblk W c 2 t) (iblk W c 3 t) else d) = histOut W c := by
  by_cases h0 : t.val = 0
  · rw [if_pos ((hcond t).mpr h0), show t = t0 from Fin.ext h0]; rfl
  · rw [if_neg fun hc => h0 ((hcond t).mp hc), h h0]
theorem scaleOut_step (c : Dev nD) (t : Fin cfg2.N) (d : Vec F S3x128 .f32) (h : t.val ≠ 0 → d = scaleOut W c) :
    (if cond (grid2.coords t) then scales (iblk W c 0 t) else d) = scaleOut W c := by
  by_cases h0 : t.val = 0
  · rw [if_pos ((hcond t).mpr h0), show t = t0 from Fin.ext h0]; rfl
  · rw [if_neg fun hc => h0 ((hcond t).mp hc), h h0]

/-- The proof data: arrays as the region finds them; after the body each input's buffer at its block and each output's as the body leaves it; nothing owed; full shares. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => dxBlock (iblk W c 0 t) (iblk W c 4 t) (iblk W c 5 t)
    | ⟨7, _⟩ => histOut W c
    | ⟨8, _⟩ => scaleOut W c
  Φ _ := Pipeline.ΦA spec2 c
  q _ := fullShare
  owed _ := 0

theorem A_eq (c : Dev nD) (w : Fin cfg2.W) : (dat W c).A w = W c (Proc.devRef .tc (Pipeline.arrRef spec2 w)) := by
  dsimp only [dat]
theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = iblk W c 3 t := by dsimp only [dat]
theorem after_4 (c : Dev nD) (t : Fin cfg2.N) : (dat W c).after 4 t = iblk W c 4 t := by dsimp only [dat]
theorem after_5 (c : Dev nD) (t : Fin cfg2.N) : (dat W c).after 5 t = iblk W c 5 t := by dsimp only [dat]
theorem after_6 (c : Dev nD) (t : Fin cfg2.N) : (dat W c).after 6 t = dxBlock (iblk W c 0 t) (iblk W c 4 t) (iblk W c 5 t) := by dsimp only [dat]
theorem after_7 (c : Dev nD) (t : Fin cfg2.N) : (dat W c).after 7 t = histOut W c := by dsimp only [dat]
theorem after_8 (c : Dev nD) (t : Fin cfg2.N) : (dat W c).after 8 t = scaleOut W c := by dsimp only [dat]

/-- Each input's buffer holds its block at every point, fetched there or not. -/
theorem before_0 (c : Dev nD) (t : Fin cfg2.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat W c).before 5 t d = iblk W c 5 t :=
  ((dat W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Windows 7 and 8 are stored at the first point only, and keep what it stored. -/
theorem idle_7 (t : Fin cfg2.N) : cfg2.idle 7 (cfg2.grid.coords t) = true ↔ t.val ≠ 0 := by
  rw [show cfg2.idle 7 (cfg2.grid.coords t) = !(k2_cond1 (grid2.coords t) == 1#1) from rfl, Ne, ← hcond t]
  unfold cond; simp
theorem flush_7 (t : Fin cfg2.N) (h : t.val < 13) : (cfg2.win 7).flush t = false :=
  Bool.eq_false_iff.mpr fun hf => by have := (flush2_7 _).mp hf; omega
theorem before_7_at (c : Dev nD) : ∀ (n : ℕ) (t : Fin cfg2.N), t.val = n + 1 → ∀ d, (dat W c).before 7 t d = histOut W c
  | 0, t, h, d => by
    have hN : t.val < 14 := lt_of_lt_of_eq t.isLt (show cfg2.N = 14 from N_2)
    have hi : cfg2.idle 7 (cfg2.grid.coords ⟨t.val - 1, Nat.lt_of_le_of_lt (Nat.sub_le _ _) t.isLt⟩) = false :=
      Bool.eq_false_iff.mpr fun hh => (idle_7 _).mp hh (by dsimp only; omega)
    rw [(dat W c).before_of_pos 7 t (by omega) ((cfg2.win 7).fetch_out rfl t), flush_7 _ (by dsimp only; omega), if_neg Bool.false_ne_true]
    unfold Dat.left; rw [hi]; dsimp only; unfold Dat.kept
    rw [Pipeline.fill_of_clip_none _ _ (fun _ => rfl) d ((dat W c).after 7 _), Window.fill_cut]
    dsimp only [dat]
  | n + 1, t, h, d => by
    have hN : t.val < 14 := lt_of_lt_of_eq t.isLt (show cfg2.N = 14 from N_2)
    have hi : cfg2.idle 7 (cfg2.grid.coords ⟨t.val - 1, Nat.lt_of_le_of_lt (Nat.sub_le _ _) t.isLt⟩) = true :=
      (idle_7 _).mpr (by dsimp only; omega)
    rw [(dat W c).before_of_pos 7 t (by omega) ((cfg2.win 7).fetch_out rfl t), flush_7 _ (by dsimp only; omega), if_neg Bool.false_ne_true]
    unfold Dat.left; rw [hi]; dsimp only
    exact before_7_at c n _ (by dsimp only; omega) d
theorem before_7 (c : Dev nD) (t : Fin cfg2.N) (h0 : t.val ≠ 0) (d) : (dat W c).before 7 t d = histOut W c :=
  before_7_at W c (t.val - 1) t (by omega) d
theorem leaves_7 (c : Dev nD) (t : Fin cfg2.N) :
    owns (c : Thread nD τ) ((cfg2.win 7).stage (cfg2.slots t 7)) fullShare ((dat W c).after 7 t) ⊢ (dat W c).leavesExact 7 t := by
  unfold Dat.leavesExact
  by_cases h0 : t.val = 0
  · rw [show cfg2.idle 7 (cfg2.grid.coords t) = false from Bool.eq_false_iff.mpr fun hh => (idle_7 _).mp hh h0]
  · rw [(idle_7 t).mpr h0]; dsimp only
    cases (cfg2.win 7).flush t
    · dsimp only; simp only [before_7 W c t h0, after_7]
      iintro H; iexists (histOut W c); iexact H
    · exact .rfl
theorem idle_8 (t : Fin cfg2.N) : cfg2.idle 8 (cfg2.grid.coords t) = true ↔ t.val ≠ 0 := by
  rw [show cfg2.idle 8 (cfg2.grid.coords t) = !(k2_cond1 (grid2.coords t) == 1#1) from rfl, Ne, ← hcond t]
  unfold cond; simp
theorem flush_8 (t : Fin cfg2.N) (h : t.val < 13) : (cfg2.win 8).flush t = false :=
  Bool.eq_false_iff.mpr fun hf => by have := (flush2_8 _).mp hf; omega
theorem before_8_at (c : Dev nD) : ∀ (n : ℕ) (t : Fin cfg2.N), t.val = n + 1 → ∀ d, (dat W c).before 8 t d = scaleOut W c
  | 0, t, h, d => by
    have hN : t.val < 14 := lt_of_lt_of_eq t.isLt (show cfg2.N = 14 from N_2)
    have hi : cfg2.idle 8 (cfg2.grid.coords ⟨t.val - 1, Nat.lt_of_le_of_lt (Nat.sub_le _ _) t.isLt⟩) = false :=
      Bool.eq_false_iff.mpr fun hh => (idle_8 _).mp hh (by dsimp only; omega)
    rw [(dat W c).before_of_pos 8 t (by omega) ((cfg2.win 8).fetch_out rfl t), flush_8 _ (by dsimp only; omega), if_neg Bool.false_ne_true]
    unfold Dat.left; rw [hi]; dsimp only; unfold Dat.kept
    rw [Pipeline.fill_of_clip_none _ _ (fun _ => rfl) d ((dat W c).after 8 _), Window.fill_cut]
    dsimp only [dat]
  | n + 1, t, h, d => by
    have hN : t.val < 14 := lt_of_lt_of_eq t.isLt (show cfg2.N = 14 from N_2)
    have hi : cfg2.idle 8 (cfg2.grid.coords ⟨t.val - 1, Nat.lt_of_le_of_lt (Nat.sub_le _ _) t.isLt⟩) = true :=
      (idle_8 _).mpr (by dsimp only; omega)
    rw [(dat W c).before_of_pos 8 t (by omega) ((cfg2.win 8).fetch_out rfl t), flush_8 _ (by dsimp only; omega), if_neg Bool.false_ne_true]
    unfold Dat.left; rw [hi]; dsimp only
    exact before_8_at c n _ (by dsimp only; omega) d
theorem before_8 (c : Dev nD) (t : Fin cfg2.N) (h0 : t.val ≠ 0) (d) : (dat W c).before 8 t d = scaleOut W c :=
  before_8_at W c (t.val - 1) t (by omega) d
theorem leaves_8 (c : Dev nD) (t : Fin cfg2.N) :
    owns (c : Thread nD τ) ((cfg2.win 8).stage (cfg2.slots t 8)) fullShare ((dat W c).after 8 t) ⊢ (dat W c).leavesExact 8 t := by
  unfold Dat.leavesExact
  by_cases h0 : t.val = 0
  · rw [show cfg2.idle 8 (cfg2.grid.coords t) = false from Bool.eq_false_iff.mpr fun hh => (idle_8 _).mp hh h0]
  · rw [(idle_8 t).mpr h0]; dsimp only
    cases (cfg2.win 8).flush t
    · dsimp only; simp only [before_8 W c t h0, after_8]
      iintro H; iexists (scaleOut W c); iexact H
    · exact .rfl

set_option maxHeartbeats 1600000 in
/-- The body at any point. -/
theorem sound_body (c : Dev nD) (t : Fin cfg2.N) :
    iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d))
    ∗ (∃ d, owns (c : Thread nD τ) (st2_7 t) fullShare ((dat W c).before 7 t d))
    ∗ (∃ d, owns (c : Thread nD τ) (st2_8 t) fullShare ((dat W c).before 8 t d)))
    ⊢ wp frame (wpE (defs₀ (F := F)) Variants.none c none) Set.univ (bodyAt2 t) (fun _ => iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t)
    ∗ owns (c : Thread nD τ) (st2_5 t) fullShare ((dat W c).after 5 t)
    ∗ owns (c : Thread nD τ) (st2_6 t) fullShare ((dat W c).after 6 t)
    ∗ owns (c : Thread nD τ) (st2_7 t) fullShare ((dat W c).after 7 t)
    ∗ owns (c : Thread nD τ) (st2_8 t) fullShare ((dat W c).after 8 t))) := by
  unfold bodyAt2
  simp only [before_0, before_1, before_2, before_3, before_4, before_5]
  rw [show (dat W c).Φ t.succ = (dat W c).Φ t.castSucc from rfl,
    show (dat W c).owesAt () t.succ = (dat W c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← histOut_step W c t ((dat W c).before 7 t d7) (fun h => before_7 W c t h d7), ← scaleOut_step W c t ((dat W c).before 8 t d8) (fun h => before_8 W c t h d8)]
  iapply (body c (grid2.coords t) _ _ _ _ _ _ _ _ _ _ _ _ _ _ _ _ _ _ (iblk W c 0 t) (iblk W c 1 t) (iblk W c 2 t) (iblk W c 3 t) (iblk W c 4 t) (iblk W c 5 t) ((dat W c).before 7 t d7) ((dat W c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body there. -/
theorem defs₀_row (t : Fin cfg2.N) :
    defs₀ (F := F) .tc cfg2.body (cfg2.bodyArgs t (cfg2.slots t)) = bodyAt2 t := by
  unfold defs₀; rw [Defs.onTc_tc]

end Cert.KernelIdeal.R2

end
-- ==== Proof.KernelIdeal.Obl2.lean ====
/- The third kernel's body obligation. -/
module

public import proofs.«01_k».proof.Proof.KernelIdeal.Dat2

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The library's body obligation, at every point. -/
theorem body_obligation (c : Dev nD) : BodyObligation (dat (F := F) W c) (defs₀ (F := F)) Variants.none () Set.univ := fun t => by
  rw [bigSep_W2, bigSep_W2, defs₀_row]
  refine triple_restated (sound_body W c t) rfl (BI.Entails.refl _) fun _ => ?_
  have h7 := leaves_7 W c t
  have h8 := leaves_8 W c t
  unfold Dat.leavesExact at h7 h8
  dsimp only
  dsimp only at h7 h8
  iintro ⟨HΦ, Ho, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply h7; iexact H7
  iapply h8; iexact H8

end Cert.KernelIdeal.R2

end
-- ==== Proof.KernelIdeal.Compose.lean ====
/- The whole run: the three kernels' regions chained between the host's reshapes. Every unscoped buffer of the final
   memory is named, `W5`. -/
module

public import proofs.«01_k».proof.Proof.Gen.KernelIdeal.Regions
public import proofs.«01_k».proof.Proof.KernelIdeal.Dat0
public import proofs.«01_k».proof.Proof.KernelIdeal.Dat1
public import proofs.«01_k».proof.Proof.KernelIdeal.Obl2
public import Idealize.ShloMosaic.Lib.Pipeline.RegionArraysS

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers after the host's first reshapes, after each kernel, and at the end. -/
def W1 (c : Dev nD) : Valuation τ sig (Elt F) := StableHlo.after hostOps0 (V0 m c)
def W2 (c : Dev nD) : Valuation τ sig (Elt F) := Pipeline.afterRegion (R0.dat (W1 m) c) (W1 m c)
def W3 (c : Dev nD) : Valuation τ sig (Elt F) := Pipeline.afterRegion (R1.dat (W2 m) c) (W2 m c)
def W4 (c : Dev nD) : Valuation τ sig (Elt F) := Pipeline.afterRegion (R2.dat (W3 m) c) (W3 m c)
def W5 (c : Dev nD) : Valuation τ sig (Elt F) := StableHlo.after hostOps3 (W4 m c)

/-- The three kernels' proof data. -/
def pdats : (p : Fin 3) → (c : Dev nD) → Dat τ (Elt F) Unit ℕ (UR sig nD τ) ℕ (cfgs p) c
  | ⟨0, _⟩, c => R0.dat (W1 m) c
  | ⟨1, _⟩, c => R1.dat (W2 m) c
  | ⟨2, _⟩, c => R2.dat (W3 m) c

/-- Every semaphore of a TensorCore may carry the one index; nothing is owed. -/
def L (g : GSem nD τ sig) : Finset Unit := if g.1.2 = .tc then {()} else ∅
def lv (_ : GSem nD τ sig) (_ : Unit) : ℕ := 0

/-- What rides beside the buffers: nothing owed, and the generator register. -/
def rest (c : Dev nD) : sProp 𝕄 :=
  iprop((∃ Wd, owes (c : Thread nD τ) (0 : CellTallies nD τ sig Unit) Wd) ∗ (∃ r, prngReg c r) ∗ emp)

theorem cut (p : Fin 3) : Pipeline.LevelCut (nD := nD) (τ := τ) (pcfgs (F := F)) adm () L lv p (fun _ => 0) (fun _ => 0) where
  hι c w s := by unfold L; rw [if_pos rfl]; exact Finset.mem_singleton_self _
  hιb _ _ _ := le_refl _
  hD _ _ _ h := absurd h (lt_irrefl _)

theorem uc (p : Fin 3) : Pipeline.arrRefs (τ := τ) (pcfgs (F := F) p).spec ⊆ Pipeline.ucRefs τ sig :=
  Pipeline.arrRefs_sub_ucRefs _ (by
    match p with
    | ⟨0, _⟩ => exact launch0.win.arr_unscoped
    | ⟨1, _⟩ => exact launch1.win.arr_unscoped
    | ⟨2, _⟩ => exact launch2.win.arr_unscoped)

/-- Each kernel's region over the unscoped buffers. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (R0.body_obligation (W1 m) c).loose) (fun _ _ => rfl) (fun _ => rfl)
    (fun c w => by unfold Dat.share; exact ite_self _) (fun _ => .rfl) (fun _ => .rfl)
    (fun _ => 0) (cut 0) (fun _ => iprop(emp)) (W1 m) (fun c w => rfl)
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (R1.body_obligation (W2 m) c).loose) (fun _ _ => rfl) (fun _ => rfl)
    (fun c w => by unfold Dat.share; exact ite_self _) (fun _ => .rfl) (fun _ => .rfl)
    (fun _ => 0) (cut 1) (fun _ => iprop(emp)) (W2 m) (fun c w => rfl)
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) (launch2.toP) rfl
    (fun c => (R2.body_obligation (W3 m) c).loose) (fun _ _ => rfl) (fun _ => rfl)
    (fun c w => by unfold Dat.share; exact ite_self _) (fun _ => .rfl) (fun _ => .rfl)
    (fun _ => 0) (cut 2) (fun _ => iprop(emp)) (W3 m) (fun c w => rfl)

theorem pre0 (c : Dev nD) : iprop(StableHlo.held (c : Thread nD τ) (Pipeline.ucRefs τ sig) (W1 m c) ∗ rest (F := F) c) ⊢ (reg0 m).pre c :=
  RegionSeg.ofHeldIn_pre (pcs := pcfgs (F := F)) (a := adm) (pdats := pdats m) (ι := ()) (defs₀ := defs₀) (𝒱₀ := Variants.none) (L := L) (lv := lv) (p := 0) (D := fun _ => 0)
    (S := Pipeline.ucRefs τ sig) (uc 0) (X := fun c => iprop(∃ r, prngReg c r)) (Y := fun c => iprop(∃ r, prngReg c r)) (kit := launch0.toP) (hK := rfl)
    (hbody := fun c => (R0.body_obligation (W1 m) c).loose) (howed := fun _ _ => rfl) (hrec := fun _ => rfl)
    (hshare := fun c w => by unfold Dat.share; exact ite_self _) (hin := fun _ => .rfl) (hout := fun _ => .rfl)
    (b := fun _ => 0) (hcut := cut 0) (R := fun _ => iprop(emp)) (W := W1 m) (hW := fun c w => rfl) c
theorem post0 (c : Dev nD) : (reg0 m).post c ⊢ iprop(StableHlo.held (c : Thread nD τ) (Pipeline.ucRefs τ sig) (W2 m c) ∗ rest (F := F) c) :=
  RegionSeg.ofHeldIn_post (uc 0) c
theorem pre1 (c : Dev nD) : iprop(StableHlo.held (c : Thread nD τ) (Pipeline.ucRefs τ sig) (W2 m c) ∗ rest (F := F) c) ⊢ (reg1 m).pre c :=
  RegionSeg.ofHeldIn_pre (pcs := pcfgs (F := F)) (a := adm) (pdats := pdats m) (ι := ()) (defs₀ := defs₀) (𝒱₀ := Variants.none) (L := L) (lv := lv) (p := 1) (D := fun _ => 0)
    (S := Pipeline.ucRefs τ sig) (uc 1) (X := fun c => iprop(∃ r, prngReg c r)) (Y := fun c => iprop(∃ r, prngReg c r)) (kit := launch1.toP) (hK := rfl)
    (hbody := fun c => (R1.body_obligation (W2 m) c).loose) (howed := fun _ _ => rfl) (hrec := fun _ => rfl)
    (hshare := fun c w => by unfold Dat.share; exact ite_self _) (hin := fun _ => .rfl) (hout := fun _ => .rfl)
    (b := fun _ => 0) (hcut := cut 1) (R := fun _ => iprop(emp)) (W := W2 m) (hW := fun c w => rfl) c
theorem post1 (c : Dev nD) : (reg1 m).post c ⊢ iprop(StableHlo.held (c : Thread nD τ) (Pipeline.ucRefs τ sig) (W3 m c) ∗ rest (F := F) c) :=
  RegionSeg.ofHeldIn_post (uc 1) c
theorem pre2 (c : Dev nD) : iprop(StableHlo.held (c : Thread nD τ) (Pipeline.ucRefs τ sig) (W3 m c) ∗ rest (F := F) c) ⊢ (reg2 m).pre c :=
  RegionSeg.ofHeldIn_pre (pcs := pcfgs (F := F)) (a := adm) (pdats := pdats m) (ι := ()) (defs₀ := defs₀) (𝒱₀ := Variants.none) (L := L) (lv := lv) (p := 2) (D := fun _ => 0)
    (S := Pipeline.ucRefs τ sig) (uc 2) (X := fun c => iprop(∃ r, prngReg c r)) (Y := fun c => iprop(∃ r, prngReg c r)) (kit := launch2.toP) (hK := rfl)
    (hbody := fun c => (R2.body_obligation (W3 m) c).loose) (howed := fun _ _ => rfl) (hrec := fun _ => rfl)
    (hshare := fun c w => by unfold Dat.share; exact ite_self _) (hin := fun _ => .rfl) (hout := fun _ => .rfl)
    (b := fun _ => 0) (hcut := cut 2) (R := fun _ => iprop(emp)) (W := W3 m) (hW := fun c w => rfl) c
theorem post2 (c : Dev nD) : (reg2 m).post c ⊢ iprop(StableHlo.held (c : Thread nD τ) (Pipeline.ucRefs τ sig) (W4 m c) ∗ rest (F := F) c) :=
  RegionSeg.ofHeldIn_post (uc 2) c

/-- The host's reshapes before and after the kernels. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) rest

abbrev segs (c : Dev nD) : List (Seg (pcfgs (F := F)) adm (pdats m) () defs₀ Variants.none L lv) :=
  [.host (host0 m), .region (reg0 m), .region (reg1 m), .region (reg2 m), .host (host3 m)]

set_option backward.isDefEq.respectTransparency.types false in
/-- Every execution ends, with every unscoped buffer at `W5` and every semaphore at zero. -/
theorem run (ρ : Dev nD → PrngReg) :
    θ_run defs (onTc (τ := τ) (main (F := F))) ⟨m, fun _ => 0, ρ⟩ (fun r =>
      (∀ (c : Dev nD), ∀ b ∈ Pipeline.ucRefs τ sig, r.2.mem ((c.tc : Thread nD τ).1, b) = W5 m c b) ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Seg.run_eq_chain,
        show (segs m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g h => by unfold L; rw [if_neg h])
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (W5 m c))
    (hch := fun c => ⟨.rfl, pre0 m c, (post0 m c).trans (pre1 m c), (post1 m c).trans (pre2 m c), post2 m c, ?_⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W5 m c) ∗ rest (F := F) c) ⊢ _
    unfold rest
    iintro ⟨Hh, HO, -, -⟩
    isplitl [Hh] <;> iassumption
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    imodintro; iexact Hr

end Cert.KernelIdeal.Whole

end
-- ==== Proof.KernelIdeal.Frame.lean ====
/- The kernel leaves its four arguments alone. -/
module

public import proofs.«01_k».proof.Proof.KernelIdeal.Compose

@[expose] public section

noncomputable section

namespace Cert.KernelIdeal.Whole

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- A buffer that the host's first reshapes do not write holds what it held. -/
theorem W1_keeps (c : Dev nD) (r : Ref sig .tc) (h : r ∉ hostOps0_W) : W1 m c (Proc.devRef .tc r) = V0 m c (Proc.devRef .tc r) :=
  StableHlo.after_of_writes_sub hostOps0 _ hostOps0_writes h
/-- A buffer that no output window of the first kernel backs holds what it held. -/
theorem W2_keeps (c : Dev nD) (r : Ref sig .tc)
    (h : ∀ w, Pipeline.arrRef spec0 w = r → (cfg0.win w).isOut = false) : W2 m c (Proc.devRef .tc r) = W1 m c (Proc.devRef .tc r) :=
  Pipeline.afterRegion_keeps (R0.dat (W1 m) c) (W1 m c) launch0.win.arr_inj (R0.A_eq (W1 m) c) r h
theorem W3_keeps (c : Dev nD) (r : Ref sig .tc)
    (h : ∀ w, Pipeline.arrRef spec1 w = r → (cfg1.win w).isOut = false) : W3 m c (Proc.devRef .tc r) = W2 m c (Proc.devRef .tc r) :=
  Pipeline.afterRegion_keeps (R1.dat (W2 m) c) (W2 m c) launch1.win.arr_inj (R1.A_eq (W2 m) c) r h
theorem W4_keeps (c : Dev nD) (r : Ref sig .tc)
    (h : ∀ w, Pipeline.arrRef spec2 w = r → (cfg2.win w).isOut = false) : W4 m c (Proc.devRef .tc r) = W3 m c (Proc.devRef .tc r) :=
  Pipeline.afterRegion_keeps (R2.dat (W3 m) c) (W3 m c) launch2.win.arr_inj (R2.A_eq (W3 m) c) r h
/-- A buffer that the host's last reshapes do not write holds what it held. -/
theorem W5_keeps (c : Dev nD) (r : Ref sig .tc) (h : r ∉ hostOps3_W) : W5 m c (Proc.devRef .tc r) = W4 m c (Proc.devRef .tc r) :=
  StableHlo.after_of_writes_sub hostOps3 _ hostOps3_writes h

/-- The arguments reach the end as launched. -/
theorem W5_arg (c : Dev nD) (r : Ref sig .tc) (h : r ∈ [main_arg0, main_arg1, main_arg2, main_arg3]) :
    W5 m c (Proc.devRef .tc r) = m ((c.tc : Thread nD τ).loc r) := by
  simp only [List.mem_cons, List.not_mem_nil, or_false] at h
  rcases h with rfl | rfl | rfl | rfl <;>
    exact (W5_keeps m c _ (by decide)).trans ((W4_keeps m c _ (by decide)).trans ((W3_keeps m c _ (by decide)).trans
      ((W2_keeps m c _ (by decide)).trans ((W1_keeps m c _ (by decide)).trans rfl))))

/-- Every execution ends with the arguments as they were and every semaphore at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨(h.1 c _ (Finset.mem_filter.mpr ⟨StableHlo.devRef_mem_tcRefs main_arg0, by decide⟩)).trans (W5_arg m c _ (by decide)),
     (h.1 c _ (Finset.mem_filter.mpr ⟨StableHlo.devRef_mem_tcRefs main_arg1, by decide⟩)).trans (W5_arg m c _ (by decide)),
     (h.1 c _ (Finset.mem_filter.mpr ⟨StableHlo.devRef_mem_tcRefs main_arg2, by decide⟩)).trans (W5_arg m c _ (by decide)),
     (h.1 c _ (Finset.mem_filter.mpr ⟨StableHlo.devRef_mem_tcRefs main_arg3, by decide⟩)).trans (W5_arg m c _ (by decide))⟩, h.2⟩)
    (run m ρ)

end Cert.KernelIdeal.Whole

end
-- ==== Proof.Value.Scale.lean ====
/- The power-of-two scale of a delayed-scaling quantiser over the extended reals, stated two ways: by the floor of a
   base-two logarithm, and by counting the powers of two at most the magnitude. The two agree on the magnitudes of a
   finite history. -/
module

public import Idealize.ShloMosaic.PureOps
public import Idealize.ShloMosaic.PureOps.Ideal
public import Idealize.ShloMosaic.PureOps.Ideal.Laws
public import Idealize.ShloMosaic.PureOps.Reduce
public import Idealize.ShloMosaic.Lib.ValueIdx
public import Idealize.ShloMosaic.Lib.ValueIdxCore
public import Idealize.ShloMosaic.Lib.IndicatorCount

@[expose] public section

noncomputable section

namespace Cert.Scale

open Idealize.ShloMosaic

/-- The reference's exponent of a magnitude. -/
def expo (m : Ideal .f32) : Ideal .f32 :=
  Scalar.select (Scalar.cmpf .olt m (Scalar.ofBits .f32 0x00800000#32)) (Scalar.ofBits .f32 0x00000000#32)
    (Scalar.addf (Scalar.floor (Scalar.divf (Scalar.log m) (Scalar.log (Scalar.ofBits .f32 0x40000000#32 : Ideal .f32)))) (Scalar.ofBits .f32 0x3F800000#32))
/-- The reference's scale and its inverse. -/
def scale (m : Ideal .f32) : Ideal .f32 := Scalar.exp2 (expo m)
def inv (m : Ideal .f32) : Ideal .f32 := Scalar.exp2 (Scalar.subf (Scalar.ofBits .f32 0x00000000#32) (expo m))

/-- The kernel's exponent from the count of powers. -/
def cexpo (n : BitVec 32) : BitVec 32 :=
  Scalar.select (IntOp.ori (IntOp.cmpi .eq n 0#32) (IntOp.cmpi .eq n 255#32)) 0#32 (IntOp.subi n 126#32)
def cscale (n : BitVec 32) : Ideal .f32 := Scalar.ofBits .f32 (IntOp.shli .vector (IntOp.addi 127#32 (cexpo n)) 23#32)
def cinv (n : BitVec 32) : Ideal .f32 := Scalar.ofBits .f32 (IntOp.shli .vector (IntOp.subi 127#32 (cexpo n)) 23#32)

/-- The word with exponent field `k` and nothing else denotes `2 ^ (k - 127)`. -/
theorem field_parts : ∀ k : Fin 256, ((BitVec.ofNat 32 (k.val * 2 ^ 23)).extractLsb' 31 1 = 0#1)
    ∧ ((BitVec.ofNat 32 (k.val * 2 ^ 23)).extractLsb' 23 8).toNat = k.val ∧ ((BitVec.ofNat 32 (k.val * 2 ^ 23)).extractLsb' 0 23).toNat = 0 := by
  decide +kernel

theorem ofBits_field (k : ℕ) (h1 : 1 ≤ k) (h2 : k ≤ 254) :
    Ideal.ofBits .f32 (BitVec.ofNat 32 (k * 2 ^ 23)) = (((2 : ℝ) ^ ((k : ℤ) - 127) : ℝ) : EReal) := by
  obtain ⟨a, b, c⟩ := field_parts ⟨k, by omega⟩
  dsimp only at a b c
  rw [show ∀ b, Ideal.ofBits .f32 b = Ideal.ieee 8 23 b from fun _ => rfl]
  unfold Ideal.ieee
  simp only [b, c]
  rw [show (8 + 23 : ℕ) = 31 from rfl, a]
  rw [if_neg (by omega), if_neg (by omega)]
  congr 1
  have : ((2 : ℝ) ^ 23) = (2 : ℝ) ^ (23 : ℤ) := by norm_num
  simp only [show ((0#1 : BitVec 1) == 1#1) = false from rfl, Nat.add_zero]
  rw [Nat.cast_pow, Nat.cast_ofNat, this]
  simp only [Bool.false_eq_true, if_false, one_mul]
  rw [← zpow_add₀ (by norm_num : (2 : ℝ) ≠ 0)]
  congr 1
  push_cast
  ring

theorem ofBits_top : Ideal.ofBits .f32 (BitVec.ofNat 32 (255 * 2 ^ 23)) = (⊤ : EReal) := by
  obtain ⟨a, b, c⟩ := field_parts ⟨255, by omega⟩
  dsimp only at a b c
  rw [show ∀ b, Ideal.ofBits .f32 b = Ideal.ieee 8 23 b from fun _ => rfl]
  unfold Ideal.ieee
  simp only [b, c]
  rw [show (8 + 23 : ℕ) = 31 from rfl, a]
  simp

theorem ofBits_zero : Ideal.ofBits .f32 0x00000000#32 = (0 : EReal) := by
  rw [show ∀ b, Ideal.ofBits .f32 b = Ideal.ieee 8 23 b from fun _ => rfl]
  unfold Ideal.ieee
  simp

theorem power_word : ∀ k : Fin 255, IntOp.shli .vector (IntOp.addi (BitVec.ofNat 32 k.val) 1#32) 23#32 = BitVec.ofNat 32 ((k.val + 1) * 2 ^ 23) := by
  decide +kernel
theorem scale_word : ∀ j : Fin 253, IntOp.shli .vector (IntOp.addi 127#32 (cexpo (BitVec.ofNat 32 j.val))) 23#32
    = BitVec.ofNat 32 ((if j.val = 0 then 127 else j.val + 1) * 2 ^ 23) := by
  decide +kernel
theorem inv_word : ∀ j : Fin 253, IntOp.shli .vector (IntOp.subi 127#32 (cexpo (BitVec.ofNat 32 j.val))) 23#32
    = BitVec.ofNat 32 ((if j.val = 0 then 127 else 253 - j.val) * 2 ^ 23) := by
  decide +kernel

/-- The count of the powers of two at most `m`. -/
def count (m : EReal) : BitVec 32 :=
  BitVec.ofNat 32 (Finset.univ.filter fun k : Fin 255 => Ideal.ofBits .f32 (BitVec.ofNat 32 ((k.val + 1) * 2 ^ 23)) ≤ m).card

theorem two_zpow_le {a b : ℤ} : (2 : ℝ) ^ a ≤ 2 ^ b ↔ a ≤ b := zpow_le_zpow_iff_right₀ (by norm_num)
theorem two_zpow_lt {a b : ℤ} : (2 : ℝ) ^ a < 2 ^ b ↔ a < b := zpow_lt_zpow_iff_right₀ (by norm_num)

/-- Where `m` lies below the power after the `j`th and, unless `j` is zero, at or above the `j`th, the count is `j`. -/
theorem count_eq (r : ℝ) (j : ℕ) (hj : j ≤ 252) (hlo : j ≠ 0 → (2 : ℝ) ^ ((j : ℤ) - 127) ≤ r) (hhi : r < (2 : ℝ) ^ ((j : ℤ) - 126)) :
    count (r : EReal) = BitVec.ofNat 32 j := by
  unfold count
  congr 1
  have : (Finset.univ.filter fun k : Fin 255 => Ideal.ofBits .f32 (BitVec.ofNat 32 ((k.val + 1) * 2 ^ 23)) ≤ (r : EReal))
      = Finset.univ.filter fun k : Fin 255 => k.val < j := by
    ext k
    simp only [Finset.mem_filter, Finset.mem_univ, true_and]
    have hk := k.isLt
    by_cases hk2 : k.val = 254
    · rw [hk2, ofBits_top]
      simp only [top_le_iff, EReal.coe_ne_top, false_iff]
      omega
    · rw [ofBits_field _ (by omega) (by omega), EReal.coe_le_coe_iff]
      constructor
      · intro h
        have := two_zpow_lt.mp (lt_of_le_of_lt h hhi)
        push_cast at this
        omega
      · intro h
        refine le_trans (two_zpow_le.mpr ?_) (hlo (by omega))
        push_cast
        omega
  rw [this, Fin.card_filter_val_lt]
  omega

theorem cscale_eq (j : ℕ) (hj : j ≤ 252) :
    cscale (BitVec.ofNat 32 j) = (((2 : ℝ) ^ (if j = 0 then (0 : ℤ) else (j : ℤ) - 126) : ℝ) : EReal) := by
  unfold cscale
  have := scale_word ⟨j, by omega⟩
  dsimp only at this
  rw [this]
  show Ideal.ofBits .f32 _ = _
  split
  · rw [ofBits_field _ (by omega) (by omega)]; norm_num
  · rw [ofBits_field _ (by omega) (by omega)]
    congr 2; push_cast; ring

theorem cinv_eq (j : ℕ) (hj : j ≤ 252) :
    cinv (BitVec.ofNat 32 j) = (((2 : ℝ) ^ (-(if j = 0 then (0 : ℤ) else (j : ℤ) - 126)) : ℝ) : EReal) := by
  unfold cinv
  have := inv_word ⟨j, by omega⟩
  dsimp only at this
  rw [this]
  show Ideal.ofBits .f32 _ = _
  split
  · rw [ofBits_field _ (by omega) (by omega)]; norm_num
  · rw [ofBits_field _ (by omega) (by omega)]
    congr 2; push_cast [Nat.cast_sub (show j ≤ 253 by omega)]; ring

theorem ofBits_tiny : Ideal.ofBits .f32 0x00800000#32 = (((2 : ℝ) ^ (-126 : ℤ) : ℝ) : EReal) :=
  (ofBits_field 1 (by omega) (by omega)).trans (by norm_num)
theorem ofBits_one : Ideal.ofBits .f32 0x3F800000#32 = ((1 : ℝ) : EReal) :=
  (ofBits_field 127 (by omega) (by omega)).trans (by norm_num)
theorem ofBits_two : Ideal.ofBits .f32 0x40000000#32 = ((2 : ℝ) : EReal) :=
  (ofBits_field 128 (by omega) (by omega)).trans (by norm_num)

/-- The reference's exponent of a magnitude between two neighbouring powers. -/
theorem expo_eq (r : ℝ) (j : ℕ) (hlo : j ≠ 0 → (2 : ℝ) ^ ((j : ℤ) - 127) ≤ r) (hhi : r < (2 : ℝ) ^ ((j : ℤ) - 126)) :
    expo (r : EReal) = (((if j = 0 then (0 : ℤ) else (j : ℤ) - 126 : ℤ) : ℝ) : EReal) := by
  unfold expo
  have e1 : (Scalar.cmpf .olt (r : EReal) (Scalar.ofBits .f32 0x00800000#32 : Ideal .f32) : BitVec 1)
      = BitVec.ofBool (decide ((r : EReal) < Ideal.ofBits .f32 0x00800000#32)) := rfl
  simp only [ofBits_tiny, EReal.coe_lt_coe_iff] at e1
  rw [e1]
  unfold Scalar.select
  by_cases h0 : j = 0
  · subst h0
    rw [if_pos rfl, decide_eq_true (by simpa using hhi)]
    simp only [BitVec.ofBool_true, if_true]
    exact ofBits_zero.trans (by norm_num)
  · have h1 := hlo h0
    have hr : (2 : ℝ) ^ (-126 : ℤ) ≤ r := le_trans (two_zpow_le.mpr (by omega)) h1
    have hpos : 0 < r := lt_of_lt_of_le (by positivity) h1
    rw [if_neg h0, decide_eq_false (not_lt.mpr hr)]
    rw [if_neg (by decide)]
    have hl : Ideal.log (r : EReal) = ((Real.log r : ℝ) : EReal) := by
      show (if r ≤ 0 then ⊥ else (Real.log r : EReal)) = _
      rw [if_neg (not_le.mpr hpos)]
    have hl2 : Ideal.log (Ideal.ofBits .f32 0x40000000#32) = ((Real.log 2 : ℝ) : EReal) := by
      rw [ofBits_two]
      show (if (2 : ℝ) ≤ 0 then ⊥ else (Real.log 2 : EReal)) = _
      rw [if_neg (by norm_num)]
    have hlog2 : 0 < Real.log 2 := Real.log_pos (by norm_num)
    have hd : Ideal.div ((Real.log r : ℝ) : EReal) ((Real.log 2 : ℝ) : EReal) = ((Real.log r / Real.log 2 : ℝ) : EReal) := by
      unfold Ideal.div
      rw [if_neg (by simpa using hlog2.ne'), ← EReal.coe_inv, ← EReal.coe_mul, div_eq_mul_inv]
    have hf : ⌊Real.log r / Real.log 2⌋ = (j : ℤ) - 127 := by
      rw [Int.floor_eq_iff]
      constructor
      · rw [le_div_iff₀ hlog2, ← Real.log_zpow]
        exact Real.log_le_log (by positivity) h1
      · rw [div_lt_iff₀ hlog2, show (((j : ℤ) - 127 : ℤ) : ℝ) + 1 = (((j : ℤ) - 126 : ℤ) : ℝ) from by push_cast; ring, ← Real.log_zpow]
        exact Real.log_lt_log hpos hhi
    show Ideal.liftRound Int.floor (Ideal.div (Ideal.log (r : EReal)) (Ideal.log (Ideal.ofBits .f32 0x40000000#32))) + Ideal.ofBits .f32 0x3F800000#32 = _
    rw [hl, hl2, hd, ofBits_one]
    show ((⌊Real.log r / Real.log 2⌋ : ℝ) : EReal) + ((1 : ℝ) : EReal) = _
    rw [hf, ← EReal.coe_add]
    congr 1; push_cast; ring

theorem exp2_int (e : ℤ) : Ideal.exp2 (((e : ℝ) : ℝ) : EReal) = (((2 : ℝ) ^ e : ℝ) : EReal) := by
  show ((Real.rpow 2 e : ℝ) : EReal) = _
  congr 1
  exact Real.rpow_intCast 2 e

/-- Every real from zero to below `2 ^ 126` lies between two neighbouring powers. -/
theorem bracket (r : ℝ) (h : r < (2 : ℝ) ^ (126 : ℤ)) :
    ∃ j : ℕ, j ≤ 252 ∧ (j ≠ 0 → (2 : ℝ) ^ ((j : ℤ) - 127) ≤ r) ∧ r < (2 : ℝ) ^ ((j : ℤ) - 126) := by
  by_cases h0 : r < (2 : ℝ) ^ (-126 : ℤ)
  · exact ⟨0, by omega, fun h => absurd rfl h, by simpa using h0⟩
  · have h1 := not_lt.mp h0
    have hpos : 0 < r := lt_of_lt_of_le (by positivity) h1
    obtain ⟨n, hn1, hn2⟩ := exists_mem_Ico_zpow hpos (by norm_num : (1 : ℝ) < 2)
    have ha : -126 < n + 1 := two_zpow_lt.mp (lt_of_le_of_lt h1 hn2)
    have hb : n < 126 := two_zpow_lt.mp (lt_of_le_of_lt hn1 h)
    refine ⟨(n + 127).toNat, by omega, fun _ => ?_, ?_⟩
    · rw [show (((n + 127).toNat : ℕ) : ℤ) - 127 = n from by omega]; exact hn1
    · rw [show (((n + 127).toNat : ℕ) : ℤ) - 126 = n + 1 from by omega]; exact hn2

/-- The counted scale and its inverse are the reference's. -/
theorem cscale_count (r : ℝ) (h : r < (2 : ℝ) ^ (126 : ℤ)) : cscale (count r) = scale (r : EReal) := by
  obtain ⟨j, hj, hlo, hhi⟩ := bracket r h
  rw [count_eq r j hj hlo hhi, cscale_eq j hj]
  unfold scale
  rw [expo_eq r j hlo hhi]
  exact (exp2_int _).symm
theorem cinv_count (r : ℝ) (h : r < (2 : ℝ) ^ (126 : ℤ)) : cinv (count r) = inv (r : EReal) := by
  obtain ⟨j, hj, hlo, hhi⟩ := bracket r h
  rw [count_eq r j hj hlo hhi, cinv_eq j hj]
  unfold inv
  rw [expo_eq r j hlo hhi]
  refine (exp2_int _).symm.trans ?_
  rw [show ∀ e : Ideal .f32, Scalar.exp2 (Scalar.subf (Scalar.ofBits .f32 0x00000000#32) e) = Ideal.exp2 ((Ideal.ofBits .f32 0x00000000#32 : EReal) - (e : EReal)) from fun _ => rfl]
  rw [ofBits_zero, zero_sub, ← EReal.coe_neg]
  congr 2
  push_cast
  rfl

/-- Two places of a matrix with the same coordinates are one. -/
theorem idx2_ext {n0 n1 : ℕ} {i j : (⟨2, ![n0, n1]⟩ : Shape).Idx} (h0 : (i 0).val = (j 0).val) (h1 : (i 1).val = (j 1).val) : i = j := by
  rw [ValueIdx.eq_ix2 i, ValueIdx.eq_ix2 j, Fin.ext h0, Fin.ext h1]

/-- The magnitude of a row of history: its maximum times the reciprocal of the format's largest value, without its sign. -/
def mag (h : Vec Ideal ⟨2, ![1, 16]⟩ .f32) (c : Ideal .f32) : Ideal .f32 :=
  Scalar.absf (Scalar.mulf ((⨆ i, (h i : EReal) : EReal) : Ideal .f32) c)

theorem ofBits_big : Ideal.ofBits .f32 0x7F7FFFFF#32 = (((2 ^ 24 - 1) * (2 : ℝ) ^ (104 : ℤ) : ℝ) : EReal) := by
  rw [show ∀ b, Ideal.ofBits .f32 b = Ideal.ieee 8 23 b from fun _ => rfl]
  unfold Ideal.ieee
  rw [show (0x7F7FFFFF#32).extractLsb' 23 8 = 254#8 from by decide, show (0x7F7FFFFF#32).extractLsb' 0 23 = 0x7FFFFF#23 from by decide, show (0x7F7FFFFF#32).extractLsb' (8 + 23) 1 = 0#1 from by decide]
  norm_num
theorem ofBits_c1 : Ideal.ofBits .f32 0x3B124925#32 = (((9586981 : ℝ) * (2 : ℝ) ^ (-32 : ℤ) : ℝ) : EReal) := by
  rw [show ∀ b, Ideal.ofBits .f32 b = Ideal.ieee 8 23 b from fun _ => rfl]
  unfold Ideal.ieee
  rw [show (0x3B124925#32).extractLsb' 23 8 = 118#8 from by decide, show (0x3B124925#32).extractLsb' 0 23 = 0x124925#23 from by decide, show (0x3B124925#32).extractLsb' (8 + 23) 1 = 0#1 from by decide]
  norm_num
theorem ofBits_c2 : Ideal.ofBits .f32 0x37924925#32 = (((9586981 : ℝ) * (2 : ℝ) ^ (-39 : ℤ) : ℝ) : EReal) := by
  rw [show ∀ b, Ideal.ofBits .f32 b = Ideal.ieee 8 23 b from fun _ => rfl]
  unfold Ideal.ieee
  rw [show (0x37924925#32).extractLsb' 23 8 = 111#8 from by decide, show (0x37924925#32).extractLsb' 0 23 = 0x124925#23 from by decide, show (0x37924925#32).extractLsb' (8 + 23) 1 = 0#1 from by decide]
  norm_num

/-- A row of finite history has a real magnitude below `2 ^ 126`. -/
theorem mag_real (h : Vec Ideal ⟨2, ![1, 16]⟩ .f32) (c : Ideal .f32) (r : ℝ) (hc : c = (r : EReal)) (h0 : 0 ≤ r) (h1 : r ≤ 1 / 4)
    (hf : ∀ i, max (h i : EReal) (-(h i : EReal)) ≤ Ideal.ofBits .f32 0x7F7FFFFF#32) :
    ∃ q : ℝ, mag h c = (q : EReal) ∧ q < (2 : ℝ) ^ (126 : ℤ) := by
  rw [ofBits_big] at hf
  have hlt : ((2 ^ 24 - 1) * (2 : ℝ) ^ (104 : ℤ) : ℝ) < 2 ^ (128 : ℤ) := by norm_num
  set M : ℝ := (2 ^ 24 - 1) * (2 : ℝ) ^ (104 : ℤ) with hM
  have hup : (⨆ i, (h i : EReal)) ≤ (M : EReal) := iSup_le fun i => (le_max_left _ _).trans (hf i)
  have hdn : ((-M : ℝ) : EReal) ≤ ⨆ i, (h i : EReal) := by
    refine le_trans ?_ (le_iSup (fun i => (h i : EReal)) (fun _ => ⟨0, by rename_i a; fin_cases a <;> decide⟩))
    have := (le_max_right _ _).trans (hf (fun _ => ⟨0, by rename_i a; fin_cases a <;> decide⟩))
    rw [EReal.coe_neg]
    exact EReal.neg_le_of_neg_le this
  obtain ⟨a, ha⟩ : ∃ a : ℝ, (⨆ i, (h i : EReal)) = (a : EReal) := by
    refine ⟨(⨆ i, (h i : EReal)).toReal, (EReal.coe_toReal ?_ ?_).symm⟩
    · exact ne_of_lt (lt_of_le_of_lt hup (EReal.coe_lt_top _))
    · exact ne_of_gt (lt_of_lt_of_le (EReal.bot_lt_coe _) hdn)
  rw [ha] at hup hdn
  have hup' := EReal.coe_le_coe_iff.mp hup
  have hdn' := EReal.coe_le_coe_iff.mp hdn
  refine ⟨max (a * r) (-(a * r)), ?_, ?_⟩
  · unfold mag
    rw [show ∀ x y : EReal, (Scalar.absf (Scalar.mulf (x : Ideal .f32) (y : Ideal .f32)) : Ideal .f32) = max (x * y) (-(x * y)) from fun _ _ => rfl]
    rw [ha, hc, ← EReal.coe_mul, ← EReal.coe_neg]
    exact (EReal.coe_strictMono.monotone.map_max).symm
  · have : |a * r| ≤ M * (1 / 4) := by
      rw [abs_mul, abs_of_nonneg h0]
      exact mul_le_mul (abs_le.mpr ⟨hdn', hup'⟩) h1 h0 (by rw [hM]; positivity)
    refine lt_of_le_of_lt (by rwa [← abs_eq_max_neg]) (lt_of_lt_of_le (mul_lt_mul_of_pos_right hlt (by norm_num)) (by norm_num))

theorem mag_c1 (h : Vec Ideal ⟨2, ![1, 16]⟩ .f32) (hf : ∀ i, max (h i : EReal) (-(h i : EReal)) ≤ Ideal.ofBits .f32 0x7F7FFFFF#32) :
    ∃ q : ℝ, mag h (Ideal.ofBits .f32 0x3B124925#32) = (q : EReal) ∧ q < (2 : ℝ) ^ (126 : ℤ) :=
  mag_real h _ _ ofBits_c1 (by norm_num) (by norm_num) hf
theorem mag_c2 (h : Vec Ideal ⟨2, ![1, 16]⟩ .f32) (hf : ∀ i, max (h i : EReal) (-(h i : EReal)) ≤ Ideal.ofBits .f32 0x7F7FFFFF#32) :
    ∃ q : ℝ, mag h (Ideal.ofBits .f32 0x37924925#32) = (q : EReal) ∧ q < (2 : ℝ) ^ (126 : ℤ) :=
  mag_real h _ _ ofBits_c2 (by norm_num) (by norm_num) hf

/-- A maximum reduction is at most a bound exactly when its start and every element that drops to the place are. -/
theorem red_le {s t : Shape} {φ : FTy} {axes : List (Fin s.rank)} (src : FVec Ideal s φ) (acc : BitVec φ.bits) (h : s.Reduces axes t)
    (hφ : FKind.Formats φ) (hacc : acc = FKind.maximumf.neutral φ hφ) (j : t.Idx) (B : EReal) :
    (multiReduction .maximumf axes t src acc h hφ hacc j : EReal) ≤ B ↔ (Ideal.ofBits φ acc : EReal) ≤ B ∧ ∀ i, h.drop i = j → (src i : EReal) ≤ B := by
  rw [multiReduction_maximumf_eq_fold]
  refine (Finset.fold_max_le (β := EReal) (f := src) (b := Ideal.ofBits φ acc) B).trans ?_
  simp

theorem ofBits_ninf : Ideal.ofBits .f32 0xFF800000#32 = (⊥ : EReal) := by
  rw [show ∀ b, Ideal.ofBits .f32 b = Ideal.ieee 8 23 b from fun _ => rfl]
  unfold Ideal.ieee
  rw [show (0xFF800000#32).extractLsb' 23 8 = 255#8 from by decide, show (0xFF800000#32).extractLsb' 0 23 = 0#23 from by decide, show (0xFF800000#32).extractLsb' (8 + 23) 1 = 1#1 from by decide]
  simp

/-- A maximum from the bottom that keeps one place is the supremum. -/
theorem red_sup {s t : Shape} {axes : List (Fin s.rank)} (src : FVec Ideal s .f32) (h : s.Reduces axes t)
    (hφ : FKind.Formats .f32) (hacc : 0xFF800000#32 = FKind.maximumf.neutral .f32 hφ) (j : t.Idx) (hj : ∀ k : t.Idx, k = j) :
    multiReduction .maximumf axes t src 0xFF800000#32 h hφ hacc j = (⨆ i, (src i : EReal) : EReal) := by
  refine eq_of_forall_ge_iff (α := EReal) fun B => ?_
  rw [red_le, ofBits_ninf, iSup_le_iff]
  exact ⟨fun hh i => hh.2 i (hj _), fun hh => ⟨bot_le, fun i _ => hh i⟩⟩

/-- A supremum does not see a change of shape. -/
theorem sup_shapeCast {s t : Shape} (x : s.Idx → EReal) (h : s.ShapeCasts t) : (⨆ i, shapeCast t x h i) = ⨆ i, x i :=
  (Shape.reshapeEquiv h).iSup_comp (g := x)

end Cert.Scale

end
-- ==== Proof.Value.KScale.lean ====
/- The kernel's scales and inverse scales, read from its payloads: the reference's on a row of finite history. -/
module

public import proofs.«01_k».proof.Proof.Value.Scale
public import proofs.«01_k».proof.Proof.Gen.KernelIdeal.Skeleton

@[expose] public section

set_option maxRecDepth 16384

noncomputable section

namespace Cert.KernelIdeal.Value

open Cert.KernelIdeal Cert.KernelIdeal.Gen Cert.Scale
open Idealize.ShloMosaic

/-- The one place of a one-element vector. -/
theorem idx1 (k j : S1.Idx) : k = j := by
  funext a
  match a with
  | ⟨0, _⟩ =>
    have h1 : (k 0).val < 1 := (k 0).isLt
    have h2 : (j 0).val < 1 := (j 0).isLt
    exact Fin.ext (by show (k 0).val = (j 0).val; omega)

/-- The one place of a one-by-one matrix. -/
theorem idx11 (k j : S1x1.Idx) : k = j := by
  have h1 : (k 0).val < 1 := (k 0).isLt
  have h2 : (j 0).val < 1 := (j 0).isLt
  have h3 : (k 1).val < 1 := (k 1).isLt
  have h4 : (j 1).val < 1 := (j 1).isLt
  exact idx2_ext (by omega) (by omega)

/-- The place of a one-by-one matrix. -/
abbrev o : S1x1.Idx := ValueIdx.ix2 (0 : Fin 1) (0 : Fin 1)

theorem ofBool_iff (p : Prop) [Decidable p] : BitVec.ofBool (decide p) = 1#1 ↔ p := by
  by_cases h : p <;> simp [h]

/-- The bits of a row's exponent are counted over the 255 powers. -/
theorem count_red (m : FVec Ideal S1x1 .f32) (j : S1.Idx) :
    multiReductionI .add [1] S1 (extui 32 (cmpf .oge (broadcastTo S1x255 m broadcasts_S1x1_S1x255) (k1_pay4 (F := Ideal))) natLt_1_32) 0#32 reduces_S1x255_S1 rfl j
      = Scale.count (m o) := by
  refine (multiReductionI_eq_fold _ _ _ _ _ _).trans ?_
  refine (IndicatorCount.fold_addi_setWidth_eq_card (w := 32)
    (fun i : S1x255.Idx => cmpf .oge (broadcastTo S1x255 m broadcasts_S1x1_S1x255) (k1_pay4 (F := Ideal)) i) _).trans ?_
  unfold Scale.count
  congr 1
  have hw (i : S1x255.Idx) : cmpf .oge (broadcastTo S1x255 m broadcasts_S1x1_S1x255) (k1_pay4 (F := Ideal)) i = 1#1
      ↔ Ideal.ofBits .f32 (BitVec.ofNat 32 (((i 1).val + 1) * 2 ^ 23)) ≤ (m o : EReal) := by
    have hb : broadcastTo S1x255 m broadcasts_S1x1_S1x255 i = m o := congrArg m (idx11 _ _)
    have hp : k1_pay4 (F := Ideal) i = Ideal.ofBits .f32 (BitVec.ofNat 32 (((i 1).val + 1) * 2 ^ 23)) := by
      rw [← power_word ⟨(i 1).val, (i 1).isLt⟩]
      show Ideal.ofBits .f32 (IntOp.shli .vector (IntOp.addi (BitVec.ofNat 32 (0 * 255 + (i 1).val)) 1#32) 23#32) = _
      rw [Nat.zero_mul, Nat.zero_add]
    show BitVec.ofBool (decide ((k1_pay4 (F := Ideal) i : EReal) ≤ (broadcastTo S1x255 m broadcasts_S1x1_S1x255 i : EReal))) = 1#1 ↔ _
    rw [hb, hp]
    exact ofBool_iff _
  refine Finset.card_bij' (fun i _ => (i 1 : Fin 255)) (fun k _ => ValueIdx.ix2 (0 : Fin 1) k) ?_ ?_ ?_ ?_
  · intro i hi
    simp only [Finset.mem_filter, Finset.mem_univ, true_and] at hi ⊢
    exact Finset.mem_filter.mpr ⟨Finset.mem_univ _, (hw i).mp hi.2⟩
  · intro k hk
    simp only [Finset.mem_filter, Finset.mem_univ, true_and] at hk ⊢
    exact ⟨idx1 _ _, (hw _).mpr hk⟩
  · intro i hi
    have h1 : (i 0).val < 1 := (i 0).isLt
    exact idx2_ext (by show 0 = (i 0).val; omega) rfl
  · intro k hk
    rfl

theorem cexpo_row (h : Vec Ideal S1x16 .f32) (c : Ideal .f32) (j : S1x1.Idx) :
    k1_pay5 (k1_pay3 h) (k1_pay4 (F := Ideal)) c j = cexpo (Scale.count (mag h c)) := by
  have e := count_red (absf (mulf (k1_pay3 h) (broadcast S1x1 c))) (Shape.reshapeEquiv shapeCasts_S1_S1x1 j)
  have e2 : (k1_pay3 h o : Ideal .f32) = (⨆ i, (h i : EReal) : EReal) :=
    red_sup h reduces_S1x16_S1 (.inl rfl) rfl _ (fun k => idx1 _ _)
  have e3 : absf (mulf (k1_pay3 h) (broadcast S1x1 c)) o = mag h c :=
    congrArg (fun x => (Scalar.absf (Scalar.mulf (x : Ideal .f32) c) : Ideal .f32)) e2
  rw [e3] at e
  exact congrArg cexpo e

/-- Every scale and inverse in the kernel is the counted one. -/
theorem scale_row (h : Vec Ideal S1x16 .f32) (c : Ideal .f32) (j : S1x1.Idx) :
    k1_pay6 (k1_pay3 h) (k1_pay4 (F := Ideal)) c j = cscale (Scale.count (mag h c)) :=
  congrArg (fun e => (Scalar.ofBits .f32 (IntOp.shli .vector (IntOp.addi 127#32 e) 23#32) : Ideal .f32)) (cexpo_row h c j)
theorem inv_row (h : Vec Ideal S1x16 .f32) (c : Ideal .f32) (j : S1x1.Idx) :
    k1_pay7 (k1_pay3 h) (k1_pay4 (F := Ideal)) c j = cinv (Scale.count (mag h c)) :=
  congrArg (fun e => (Scalar.ofBits .f32 (IntOp.shli .vector (IntOp.subi 127#32 e) 23#32) : Ideal .f32)) (cexpo_row h c j)

/-- A row of finite history. -/
def Fin16 (h : Vec Ideal S1x16 .f32) : Prop := ∀ i, max (h i : EReal) (-(h i : EReal)) ≤ Ideal.ofBits .f32 0x7F7FFFFF#32

/-- The two reciprocals of a format's largest value. -/
abbrev c8 : Ideal .f32 := Ideal.ofBits .f32 0x3B124925#32
abbrev c9 : Ideal .f32 := Ideal.ofBits .f32 0x37924925#32

theorem scale1 (h : Vec Ideal S1x16 .f32) (hf : Fin16 h) : k1_pay6 (k1_pay3 h) (k1_pay4 (F := Ideal)) c8 = fun _ => scale (mag h c8) := by
  obtain ⟨q, e, hq⟩ := mag_c1 h hf
  funext j; rw [scale_row, e]; exact cscale_count q hq
theorem inv1 (h : Vec Ideal S1x16 .f32) (hf : Fin16 h) : k1_pay7 (k1_pay3 h) (k1_pay4 (F := Ideal)) c8 = fun _ => inv (mag h c8) := by
  obtain ⟨q, e, hq⟩ := mag_c1 h hf
  funext j; rw [inv_row, e]; exact cinv_count q hq
theorem scale2 (h : Vec Ideal S1x16 .f32) (hf : Fin16 h) : k1_pay6 (k1_pay3 h) (k1_pay4 (F := Ideal)) c9 = fun _ => scale (mag h c9) := by
  obtain ⟨q, e, hq⟩ := mag_c2 h hf
  funext j; rw [scale_row, e]; exact cscale_count q hq
theorem inv2 (h : Vec Ideal S1x16 .f32) (hf : Fin16 h) : k1_pay7 (k1_pay3 h) (k1_pay4 (F := Ideal)) c9 = fun _ => inv (mag h c9) := by
  obtain ⟨q, e, hq⟩ := mag_c2 h hf
  funext j; rw [inv_row, e]; exact cinv_count q hq

/-- Second kernel. -/
theorem xScale1 (h : Vec Ideal S1x16 .f32) : k1_pay2 h = k1_pay6 (k1_pay3 h) (k1_pay4 (F := Ideal)) c8 := rfl
theorem dyScale1 (h : Vec Ideal S1x16 .f32) : k1_pay10 (k1_pay8 h) = k1_pay6 (k1_pay3 h) (k1_pay4 (F := Ideal)) c9 := rfl
theorem dyInv1 (h : Vec Ideal S1x16 .f32) : k1_pay11 (k1_pay8 h) = k1_pay7 (k1_pay3 h) (k1_pay4 (F := Ideal)) c9 := rfl
/-- Third kernel. -/
theorem xScale2 (h : Vec Ideal S1x16 .f32) : k2_pay10 h = k1_pay6 (k1_pay3 h) (k1_pay4 (F := Ideal)) c8 := rfl
theorem wScale2 (h : Vec Ideal S1x16 .f32) : k2_pay13 (k2_pay11 h) (k2_pay12 (F := Ideal)) c8 = k1_pay6 (k1_pay3 h) (k1_pay4 (F := Ideal)) c8 := rfl

end Cert.KernelIdeal.Value

end
-- ==== Proof.Value.Absmax.lean ====
/- Largest magnitudes over the extended reals, each stated by the bounds it keeps: a maximum is at most a bound exactly
   when everything under it is. -/
module

public import proofs.«01_k».proof.Proof.Value.Scale
public import proofs.«01_k».proof.Proof.Gen.KernelIdeal.Skeleton

@[expose] public section

set_option maxRecDepth 16384

noncomputable section

namespace Cert.KernelIdeal.Value

open Cert.KernelIdeal Cert.KernelIdeal.Gen Cert.Scale
open Idealize.ShloMosaic

/-- Every element of `x` is at most `B`. -/
def AllLe {s : Shape} {φ : FTy} (x : FVec Ideal s φ) (B : EReal) : Prop := ∀ i, (x i : EReal) ≤ B

/-- Every magnitude of `x` is at most `B`. -/
def AbsLe {s : Shape} {φ : FTy} (x : FVec Ideal s φ) (B : EReal) : Prop := ∀ i, max (x i : EReal) (-(x i : EReal)) ≤ B

theorem allLe_shapeCast {s t : Shape} {φ : FTy} (x : FVec Ideal s φ) (h : s.ShapeCasts t) (B : EReal) : AllLe (φ := φ) (shapeCast t x h) B ↔ AllLe x B :=
  (Shape.reshapeEquiv h).forall_congr_left.trans (by simp [AllLe, shapeCast])

theorem allLe_max {s : Shape} {φ : FTy} (x y : FVec Ideal s φ) (B : EReal) : AllLe (maximumf x y) B ↔ AllLe x B ∧ AllLe y B :=
  ⟨fun h => ⟨fun i => (max_le_iff.mp (h i)).1, fun i => (max_le_iff.mp (h i)).2⟩, fun h i => max_le (h.1 i) (h.2 i)⟩

theorem allLe_red {s t : Shape} {φ : FTy} {axes : List (Fin s.rank)} (src : FVec Ideal s φ) (acc : BitVec φ.bits) (h : s.Reduces axes t)
    (hφ : FKind.Formats φ) (hacc : acc = FKind.maximumf.neutral φ hφ) (B : EReal) (h0 : (Ideal.ofBits φ acc : EReal) = ⊥) :
    AllLe (multiReduction .maximumf axes t src acc h hφ hacc) B ↔ AllLe src B :=
  ⟨fun hh i => ((red_le src acc h hφ hacc (h.drop i) B).mp (hh _)).2 i rfl, fun hh j => (red_le src acc h hφ hacc j B).mpr ⟨h0 ▸ bot_le, fun i _ => hh i⟩⟩

theorem ofBits_ninf16 : Ideal.ofBits .bf16 0xFF80#16 = (⊥ : EReal) := by
  rw [show ∀ b, Ideal.ofBits .bf16 b = Ideal.ieee 8 7 b from fun _ => rfl]
  unfold Ideal.ieee
  rw [show (0xFF80#16).extractLsb' 7 8 = 255#8 from by decide, show (0xFF80#16).extractLsb' 0 7 = 0#7 from by decide, show (0xFF80#16).extractLsb' (8 + 7) 1 = 1#1 from by decide]
  simp
theorem ofBits_zero16 : Ideal.ofBits .bf16 0x0000#16 = (0 : EReal) := by
  rw [show ∀ b, Ideal.ofBits .bf16 b = Ideal.ieee 8 7 b from fun _ => rfl]
  unfold Ideal.ieee
  simp

theorem lane_slices (k : ℕ) (h : 128 * k + 128 ≤ 7168) : S256x7168.Slices ![0, 128 * k] S256x128 := by
  refine ⟨rfl, fun a => ?_⟩
  match a with
  | ⟨0, _⟩ => exact (by decide : 0 + 256 ≤ 256)
  | ⟨1, _⟩ => exact h

/-- The magnitudes of the `k`th 128 columns. -/
def lane (v : FVec Ideal S256x7168 .bf16) (k : ℕ) : FVec Ideal S256x128 .bf16 :=
  if h : 128 * k + 128 ≤ 7168 then absf (extractStridedSlice S256x128 ![0, 128 * k] v (lane_slices k h)) else fun _ => (⊥ : EReal)
/-- Their running maximum. -/
def chain (v : FVec Ideal S256x7168 .bf16) : ℕ → FVec Ideal S256x128 .bf16
  | 0 => lane v 0
  | n + 1 => maximumf (chain v n) (lane v (n + 1))

theorem chain_le (v : FVec Ideal S256x7168 .bf16) (B : EReal) (n : ℕ) : AllLe (chain v n) B ↔ ∀ k ≤ n, AllLe (lane v k) B := by
  induction n with
  | zero => exact ⟨fun h k hk => by rwa [Nat.le_zero.mp hk], fun h => h 0 le_rfl⟩
  | succ n ih =>
    rw [chain, allLe_max, ih]
    exact ⟨fun h k hk => (Nat.lt_or_eq_of_le hk).elim (fun hl => h.1 k (Nat.le_of_lt_succ hl)) fun he => he ▸ h.2,
      fun h => ⟨fun k hk => h k (Nat.le_succ_of_le hk), h _ le_rfl⟩⟩

theorem chain_all (v : FVec Ideal S256x7168 .bf16) (B : EReal) : AllLe (chain v 55) B ↔ AbsLe v B := by
  rw [chain_le]
  constructor
  · intro h i
    have hc : (i 1).val < 7168 := (i 1).isLt
    have hr : (i 0).val < 256 := (i 0).isLt
    have := h ((i 1).val / 128) (by omega) (ValueIdx.ix2 (⟨(i 0).val, hr⟩ : Fin 256) (⟨(i 1).val % 128, Nat.mod_lt _ (by decide)⟩ : Fin 128))
    unfold lane at this
    rw [dif_pos (by omega)] at this
    refine le_of_eq_of_le (congrArg (fun q : S256x7168.Idx => max (v q : EReal) (-(v q : EReal))) ?_) this
    refine idx2_ext ?_ ?_
    · exact (Nat.zero_add _).symm
    · show (i 1).val = 128 * ((i 1).val / 128) + (i 1).val % 128
      omega
  · intro h k hk i
    unfold lane
    rw [dif_pos (by omega)]
    exact h _

/-- The maximum of the magnitudes of a block, as the first and the second kernel form it. -/
def foldMax (v : FVec Ideal S256x7168 .bf16) : FVec Ideal S16x128 .bf16 :=
  multiReduction .maximumf [0] S16x128 (shapeCast S16x16x128 (chain v 55) shapeCasts_S256x128_S16x16x128) 0xFF80#16 reduces_S16x16x128_S16x128 (.inr rfl) rfl
theorem foldMax_le (v : FVec Ideal S256x7168 .bf16) (B : EReal) : AllLe (foldMax v) B ↔ AbsLe v B := by
  exact (allLe_red _ _ _ _ _ _ ofBits_ninf16).trans ((allLe_shapeCast _ _ _).trans (chain_all v B))

theorem pay0 (v : FVec Ideal S256x7168 .bf16) : k0_pay8 v (k0_pay7 v (k0_pay6 v)) = foldMax v := rfl
theorem pay1 (v : FVec Ideal S256x7168 .bf16) (p : Vec Ideal S16x128 .bf16) :
    k1_pay19 v (k1_pay16 v (k1_pay14 v (k1_pay12 v) (k1_pay13 v)) (k1_pay15 v)) (k1_pay17 v) p
      = maximumf (shapeCast S16x128 p shapeCasts_S16x128_S16x128) (foldMax v) := rfl

end Cert.KernelIdeal.Value

end
-- ==== Proof.Value.DyMax.lean ====
/- The largest magnitude of a block of the gradient, and of a whole array read from its tile of maxima. -/
module

public import proofs.«01_k».proof.Proof.Value.Absmax

@[expose] public section

set_option maxRecDepth 16384

noncomputable section

namespace Cert.KernelIdeal.Value

open Cert.KernelIdeal Cert.KernelIdeal.Gen Cert.Scale
open Idealize.ShloMosaic

theorem absLe_shapeCast {s t : Shape} {φ : FTy} (x : FVec Ideal s φ) (h : s.ShapeCasts t) (B : EReal) : AbsLe (φ := φ) (shapeCast t x h) B ↔ AbsLe x B :=
  (Shape.reshapeEquiv h).forall_congr_left.trans (by simp [AbsLe, shapeCast])

/-- The larger magnitude of two halves of columns. -/
def halfMax (u : FVec Ideal S3072x256 .bf16) : FVec Ideal S3072x128 .bf16 :=
  maximumf (absf (extractStridedSlice S3072x128 ![0, 0] u slices_S3072x256_o0_0_S3072x128))
    (absf (extractStridedSlice S3072x128 ![0, 128] u slices_S3072x256_o0_128_S3072x128))

theorem halfMax_le (u : FVec Ideal S3072x256 .bf16) (B : EReal) : AllLe (halfMax u) B ↔ AbsLe u B := by
  unfold halfMax
  rw [allLe_max]
  constructor
  · rintro ⟨hl, hr⟩ i
    have hc : (i 1).val < 256 := (i 1).isLt
    have h0 : (i 0).val < 3072 := (i 0).isLt
    by_cases hs : (i 1).val < 128
    · refine le_of_eq_of_le (congrArg (fun q : S3072x256.Idx => max (u q : EReal) (-(u q : EReal))) ?_)
        (hl (ValueIdx.ix2 (⟨(i 0).val, h0⟩ : Fin 3072) (⟨(i 1).val, hs⟩ : Fin 128)))
      exact idx2_ext (Nat.zero_add _).symm (Nat.zero_add _).symm
    · refine le_of_eq_of_le (congrArg (fun q : S3072x256.Idx => max (u q : EReal) (-(u q : EReal))) ?_)
        (hr (ValueIdx.ix2 (⟨(i 0).val, h0⟩ : Fin 3072) (⟨(i 1).val - 128, by omega⟩ : Fin 128)))
      refine idx2_ext (Nat.zero_add _).symm ?_
      show (i 1).val = 128 + ((i 1).val - 128)
      omega
  · exact fun h => ⟨fun i => h _, fun i => h _⟩

theorem halves (v : Vec Ideal S3072x256 .bf16) : k1_pay22 v = halfMax (shapeCast S3072x256 v shapeCasts_S3072x256_S3072x256) := rfl

theorem dyMax_le (v : Vec Ideal S3072x256 .bf16) (p : Vec Ideal S16x128 .bf16) (B : EReal) :
    AllLe (k1_pay24 (k1_pay22 v) p) B ↔ AllLe (s := S16x128) (φ := .bf16) p B ∧ AbsLe (s := S3072x256) (φ := .bf16) v B :=
  (allLe_max _ _ B).trans (and_congr (allLe_shapeCast _ _ _)
    ((allLe_red _ _ _ _ _ _ ofBits_ninf16).trans ((allLe_shapeCast _ _ _).trans (by
      rw [halves, halfMax_le]; exact absLe_shapeCast _ _ _))))

theorem foldStep_le (v : FVec Ideal S256x7168 .bf16) (p : Vec Ideal S16x128 .bf16) (B : EReal) :
    AllLe (maximumf (shapeCast S16x128 p shapeCasts_S16x128_S16x128) (foldMax v)) B ↔ AllLe (s := S16x128) (φ := .bf16) p B ∧ AbsLe v B :=
  (allLe_max _ _ B).trans (and_congr (allLe_shapeCast _ _ _) (foldMax_le v B))

theorem zero_le16 (B : EReal) : AllLe (s := S16x128) (φ := .bf16) (k1_pay18 (F := Ideal)) B ↔ 0 ≤ B := by
  have e : ∀ i, (k1_pay18 (F := Ideal) i : EReal) = 0 := fun i => ofBits_zero16
  exact ⟨fun h => e (ValueIdx.ix2 (0 : Fin 16) (0 : Fin 128)) ▸ h _, fun h i => (e i).symm ▸ h⟩

/-- The whole tile's maximum. -/
theorem whole_le (x : Vec Ideal S16x128 .bf16) (B : EReal) : AllLe (k2_pay3 (F := Ideal) x) B ↔ AllLe (s := S16x128) (φ := .bf16) x B :=
  (allLe_shapeCast _ _ _).trans ((allLe_red _ _ _ _ _ _ ofBits_ninf).trans ((allLe_shapeCast _ _ _).trans (allLe_red _ _ _ _ _ _ ofBits_ninf)))
theorem whole0_le (x : Vec Ideal S16x128 .bf16) (B : EReal) : AllLe (k2_pay5 (F := Ideal) x) B ↔ AllLe (s := S16x128) (φ := .bf16) x B :=
  (whole_le (shapeCast S16x128 x shapeCasts_S16x128_S16x128) B).trans (allLe_shapeCast _ _ _)
theorem whole1_le (x : Vec Ideal S16x128 .bf16) (B : EReal) : AllLe (k2_pay7 (F := Ideal) x) B ↔ AllLe (s := S16x128) (φ := .bf16) x B := whole0_le x B
theorem whole2_le (x : Vec Ideal S16x128 .bf16) (B : EReal) : AllLe (k2_pay3 (F := Ideal) (k2_pay9 x)) B ↔ AllLe (s := S16x128) (φ := .bf16) x B := whole0_le x B

/-- A magnitude is never negative. -/
theorem abs_nonneg' (x : EReal) : 0 ≤ max x (-x) := by
  rcases le_total 0 x with h | h
  · exact le_max_of_le_left h
  · exact le_max_of_le_right (by simpa using EReal.neg_le_neg_iff.mpr h)

end Cert.KernelIdeal.Value

end
-- ==== Proof.Value.Arr0.lean ====
/- The first kernel's arrays: every code of the activations, and the running largest magnitude, over the extended reals. -/
module

public import proofs.«01_k».proof.Proof.Value.KScale
public import proofs.«01_k».proof.Proof.Value.DyMax
public import proofs.«01_k».proof.Proof.KernelIdeal.Dat0
public import Idealize.ShloMosaic.Lib.Pipeline.Value
public import Idealize.ShloMosaic.Lib.Pipeline.ValueKit.Geometry

@[expose] public section

set_option maxRecDepth 16384

noncomputable section

namespace Cert.KernelIdeal.Value

open Cert.KernelIdeal Cert.KernelIdeal.Gen Cert.Scale
open Idealize.ShloMosaic Idealize.ShloMosaic.TcCoe
open Idealize.ShloMosaic.Pipeline (Dat Cfg Window)

/-- An array scaled by `k` and clamped to the four-bit-exponent format's range. -/
def quant8 {s : Shape} (k : Ideal .f32) (v : FVec Ideal s .bf16) : FVec Ideal s .fp8e4m3 := fun i =>
  (min (Ideal.ofBits .f32 0x43E00000#32) (max (Ideal.ofBits .f32 0xC3E00000#32) ((v i : EReal) * (k : EReal))) : EReal)
/-- An array scaled by `k` and clamped to the five-bit-exponent format's range. -/
def quant5 {s : Shape} (k : Ideal .f32) (v : FVec Ideal s .bf16) : FVec Ideal s .fp8e5m2 := fun i =>
  (min (Ideal.ofBits .f32 0x47600000#32) (max (Ideal.ofBits .f32 0xC7600000#32) ((v i : EReal) * (k : EReal))) : EReal)

theorem pay20 (k : Ideal .f32) (v : Vec Ideal S256x7168 .bf16) : k1_pay20 (fun _ => k) v = quant8 (s := S256x7168) k v := rfl
theorem pay25 (k : Ideal .f32) (v : FVec Ideal S3072x256 .bf16) : k1_pay25 (fun _ => k) v = quant5 (s := S3072x256) k v := rfl
theorem pay45 (h : Vec Ideal S1x16 .f32) (x : Vec Ideal S256x7168 .bf16) :
    k0_pay5 (k0_pay4 h x) = k1_pay20 (k1_pay7 (k1_pay3 h) (k1_pay4 (F := Ideal)) c8) (shapeCast S256x7168 x shapeCasts_S256x7168_S256x7168) := rfl

/-- The rows of the history. -/
abbrev row0 (H : Vec Ideal S3x16 .f32) : Vec Ideal S1x16 .f32 := View.ld H (Rect.unit (s := S3x16) ![0, 0] S1x16.size inb_S3x16_S1x16_0_0)
abbrev row1 (H : Vec Ideal S3x16 .f32) : Vec Ideal S1x16 .f32 := View.ld H (Rect.unit (s := S3x16) ![1, 0] S1x16.size inb_S3x16_S1x16_1_0)
abbrev row2 (H : Vec Ideal S3x16 .f32) : Vec Ideal S1x16 .f32 := View.ld H (Rect.unit (s := S3x16) ![2, 0] S1x16.size inb_S3x16_S1x16_2_0)

/-- Finite history. -/
def Fin48 (H : Vec Ideal S3x16 .f32) : Prop := ∀ i, max (H i : EReal) (-(H i : EReal)) ≤ Ideal.ofBits .f32 0x7F7FFFFF#32

theorem fin_row0 {H : Vec Ideal S3x16 .f32} (h : Fin48 H) : Fin16 (row0 H) := fun _ => h _
theorem fin_row1 {H : Vec Ideal S3x16 .f32} (h : Fin48 H) : Fin16 (row1 H) := fun _ => h _
theorem fin_row2 {H : Vec Ideal S3x16 .f32} (h : Fin48 H) : Fin16 (row2 H) := fun _ => h _

theorem codes_eq (H : Vec Ideal S3x16 .f32) (hH : Fin48 H) (x : Vec Ideal S256x7168 .bf16) :
    R0.codes H x = quant8 (s := S256x7168) (inv (mag (row0 H) c8)) x := by
  show k0_pay5 (k0_pay4 (row0 H) x) = _
  rw [pay45, inv1 _ (fin_row0 hH), shapeCast_self, pay20]

variable (W : (c : Dev nD) → Valuation τ sig (Elt Ideal)) (c : Dev nD)

/-! Where a block's place lies in its array. -/

theorem index0 : ∀ t : Fin grid0.N, win0_1.index t 0 = t.val ∧ win0_1.index t 1 = 0 ∧ win0_2.index t 0 = t.val ∧ win0_2.index t 1 = 0
    ∧ (∀ a, win0_0.index t a = 0) ∧ (∀ a, win0_3.index t a = 0) := by decide +kernel

theorem emb0_0 (t : Fin cfg0.N) (j : S3x16.Idx) : (win0_0.blk t).view.emb j = j :=
  funext fun a => Fin.ext ((Window.rect_emb_val win0_0 t j a).trans (by rw [(index0 t).2.2.2.2.1 a]; omega))
theorem emb0_3 (t : Fin cfg0.N) (j : S16x128.Idx) : (win0_3.blk t).view.emb j = j :=
  funext fun a => Fin.ext ((Window.rect_emb_val win0_3 t j a).trans (by rw [(index0 t).2.2.2.2.2 a]; omega))
theorem emb0_12 (t : Fin cfg0.N) (j : S256x7168.Idx) :
    ((win0_1.blk t).view.emb j : S3072x7168.Idx) = ((win0_2.blk t).view.emb j : S3072x7168.Idx) :=
  idx2_ext ((Window.rect_emb_val win0_1 t j 0).trans ((by rw [(index0 t).1, (index0 t).2.2.1] : _ = _).trans (Window.rect_emb_val win0_2 t j 0).symm))
    ((Window.rect_emb_val win0_1 t j 1).trans ((by rw [(index0 t).2.1, (index0 t).2.2.2.1] : _ = _).trans (Window.rect_emb_val win0_2 t j 1).symm))

theorem iblk0_0 (t : Fin cfg0.N) : R0.iblk W c 0 t = W c (Proc.devRef .tc main_arg3) :=
  funext fun j => congrArg (W c (Proc.devRef .tc main_arg3)) (emb0_0 t j)
theorem iblk0_1 (t : Fin cfg0.N) (j : S256x7168.Idx) : R0.iblk W c 1 t j = W c (Proc.devRef .tc main_v0) ((win0_1.blk t).view.emb j) := rfl

/-- The codes of the activations. -/
theorem arr0_2 (hH : Fin48 (W c (Proc.devRef .tc main_arg3))) : (R0.dat W c).arrAt 2 cfg0.N
    = quant8 (s := S3072x7168) (inv (mag (row0 (W c (Proc.devRef .tc main_arg3))) c8)) (W c (Proc.devRef .tc main_v0)) := by
  refine (R0.dat W c).arrAt_eq_of_covers 2 _ (by decide +kernel) fun t _ y => ?_
  have e := congrFun ((R0.after_2 W c t).trans ((congrArg (R0.codes · _) (iblk0_0 W c t)).trans (codes_eq _ hH _))) y
  refine Eq.trans e ?_
  show quant8 (s := S3072x7168) _ _ ((win0_1.blk t).view.emb y) = _
  exact congrArg (quant8 (s := S3072x7168) _ _) (emb0_12 t y)

theorem last0 : 11 < cfg0.N := by rw [show cfg0.N = 12 from N_0]; decide

/-- The largest magnitudes. -/
theorem arr0_3 : (R0.dat W c).arrAt 3 cfg0.N = R0.accAt W c 11 last0 := by
  refine (R0.dat W c).arrAt_eq_of_covers 3 _ (by decide +kernel) fun t hf y => ?_
  have ht : t = ⟨11, last0⟩ := Fin.ext (by
    have := (flush0_3 t).mp hf; have hN : t.val < 12 := lt_of_lt_of_eq t.isLt (show cfg0.N = 12 from N_0); show t.val = 11; omega)
  subst ht
  exact (congrFun (R0.after_3 W c _) y).trans (congrArg (R0.accAt W c 11 _) (emb0_3 _ y).symm)

/-- The running maximum is at most a bound exactly when zero and every magnitude so far are. -/
theorem accAt_le (B : EReal) : ∀ (n : ℕ) (hn : n < cfg0.N), AllLe (s := S16x128) (φ := .bf16) (R0.accAt W c n hn) B
    ↔ 0 ≤ B ∧ ∀ (k : ℕ) (hk : k < cfg0.N), k ≤ n → AbsLe (s := S256x7168) (φ := .bf16) (R0.iblk W c 1 ⟨k, hk⟩) B
  | 0, hn => by
    have e : R0.accAt W c 0 hn = maximumf (shapeCast S16x128 (k1_pay18 (F := Ideal)) shapeCasts_S16x128_S16x128)
        (foldMax (shapeCast S256x7168 (R0.iblk W c 1 ⟨0, hn⟩) shapeCasts_S256x7168_S256x7168)) := by
      show R0.acc _ _ _ = _
      unfold R0.acc
      rw [ite_self]
      exact congrArg (maximumf (shapeCast S16x128 (k1_pay18 (F := Ideal)) shapeCasts_S16x128_S16x128)) (pay0 _)
    rw [e, foldStep_le, zero_le16, absLe_shapeCast]
    exact and_congr Iff.rfl ⟨fun h k hk h0 => by obtain rfl := Nat.le_zero.mp h0; exact h, fun h => h 0 hn le_rfl⟩
  | n + 1, hn => by
    have hc : ¬ R0.cond (grid0.coords ⟨n + 1, hn⟩) := fun h => absurd ((R0.hcond ⟨n + 1, hn⟩).mp h) (Nat.succ_ne_zero n)
    have e : R0.accAt W c (n + 1) hn = maximumf (shapeCast S16x128 (R0.accAt W c n (Nat.lt_of_succ_lt hn)) shapeCasts_S16x128_S16x128)
        (foldMax (shapeCast S256x7168 (R0.iblk W c 1 ⟨n + 1, hn⟩) shapeCasts_S256x7168_S256x7168)) := by
      show R0.acc _ _ _ = _
      unfold R0.acc
      rw [if_neg hc]
      exact congrArg (maximumf (shapeCast S16x128 (R0.accAt W c n (Nat.lt_of_succ_lt hn)) shapeCasts_S16x128_S16x128)) (pay0 _)
    rw [e, foldStep_le, accAt_le B n _, absLe_shapeCast, and_assoc]
    refine and_congr Iff.rfl ⟨fun h k hk h0 => ?_, fun h => ⟨fun k hk h0 => h k hk (Nat.le_succ_of_le h0), h _ hn le_rfl⟩⟩
    rcases Nat.lt_or_eq_of_le h0 with hl | rfl
    · exact h.1 k hk (Nat.le_of_lt_succ hl)
    · exact h.2

theorem cover0 (i : S3072x7168.Idx) : ∃ (t : Fin cfg0.N) (y : S256x7168.Idx), ((win0_1.blk t).view.emb y : S3072x7168.Idx) = i := by
  obtain ⟨t, -, hi⟩ := (show (cfg0.win 2).Covers by decide +kernel).cover _ (Memref.isWhole_whole _) i
  obtain ⟨y, hy⟩ := View.exists_emb_of_mem_set _ hi
  exact ⟨t, y, (emb0_12 t y).trans hy⟩

/-- The tile of maxima bounds exactly the magnitudes of the activations. -/
theorem arr0_3_le (B : EReal) : AllLe (s := S16x128) (φ := .bf16) ((R0.dat W c).arrAt 3 cfg0.N) B
    ↔ 0 ≤ B ∧ AbsLe (s := S3072x7168) (φ := .bf16) (W c (Proc.devRef .tc main_v0)) B := by
  rw [arr0_3, accAt_le]
  refine and_congr Iff.rfl ⟨fun h i => ?_, fun h k hk _ y => h _⟩
  obtain ⟨t, y, rfl⟩ := cover0 i
  have ht : t.val < 12 := lt_of_lt_of_eq t.isLt (show cfg0.N = 12 from N_0)
  exact h t.val t.isLt (by omega) y

end Cert.KernelIdeal.Value

end
-- ==== Proof.Value.Prod.lean ====
/- The kernel's blocks of the three products are the matching blocks of the whole products. -/
module

public import proofs.«01_k».proof.Proof.Value.Arr0
public import proofs.«01_k».proof.Proof.Gen.ReferenceIdeal.Skeleton
public import proofs.«01_k».proof.Proof.KernelIdeal.Body1
public import proofs.«01_k».proof.Proof.KernelIdeal.Body2

@[expose] public section

set_option maxRecDepth 16384

noncomputable section

namespace Cert.KernelIdeal.Value

open Cert.KernelIdeal Cert.KernelIdeal.Gen Cert.Scale
open Idealize.ShloMosaic

/-- The three products, each over whole arrays of codes and two scales. -/
abbrev prodY (sx sw : Ideal .f32) (xc : FVec Ideal S3072x7168 .fp8e4m3) (wc : FVec Ideal S9216x7168 .fp8e4m3) : FVec Ideal S3072x9216 .bf16 :=
  Cert.ReferenceIdeal.Gen.k0_pay1 sx xc sw wc (constant S3072x9216 .f32 0x00000000#32)
abbrev prodDx (sw sy : Ideal .f32) (wc : FVec Ideal S9216x7168 .fp8e4m3) (dc : FVec Ideal S3072x9216 .fp8e5m2) : FVec Ideal S3072x7168 .bf16 :=
  Cert.ReferenceIdeal.Gen.k0_pay2 sw wc sy dc
abbrev prodDw (sx sy : Ideal .f32) (xc : FVec Ideal S3072x7168 .fp8e4m3) (dc : FVec Ideal S3072x9216 .fp8e5m2) : FVec Ideal S9216x7168 .f32 :=
  Cert.ReferenceIdeal.Gen.k0_pay3 sx xc sy dc

theorem y_block (sx sw : Ideal .f32) (xc : FVec Ideal S3072x7168 .fp8e4m3) (wc : FVec Ideal S9216x7168 .fp8e4m3) (wb : FVec Ideal S256x7168 .fp8e4m3)
    (j : S3072x256.Idx) (i : S3072x9216.Idx) (h0 : (i 0).val = (j 0).val)
    (hw : ∀ (k : S256x7168.Idx) (k' : S9216x7168.Idx), (k 0).val = (j 1).val → (k' 0).val = (i 1).val → (k 1).val = (k' 1).val → wb k = wc k') :
    k1_pay26 (fun _ => sx) (fun _ => sw) xc wb j = prodY sx sw xc wc i := by
  have e : k1_pay26 (fun _ => sx) (fun _ => sw) xc wb
      = mulf (matmul dot_S3072x7168_S256x7168_S3072x256_1_1_0_0_n_n none (shapeCast S3072x7168 xc shapeCasts_S3072x7168_S3072x7168)
          (shapeCast S256x7168 wb shapeCasts_S256x7168_S256x7168) (constant S3072x256 .f32 0x00000000#32)) (fun _ => Scalar.mulf sx sw) := rfl
  rw [e, shapeCast_self, shapeCast_self]
  refine congrArg (fun a : EReal => a * (Scalar.mulf sx sw : EReal)) ?_
  refine congrArg (fun a : EReal => Ideal.ofBits .f32 0x00000000#32 + a) ?_
  refine Finset.sum_congr rfl fun k _ => ?_
  refine congrArg₂ (fun a b : EReal => a * b) (congrArg xc (idx2_ext h0.symm rfl)) (hw _ _ rfl rfl rfl)

theorem dw_block (sx sy : Ideal .f32) (xc : FVec Ideal S3072x7168 .fp8e4m3) (dc : FVec Ideal S3072x9216 .fp8e5m2) (db : FVec Ideal S3072x256 .fp8e5m2)
    (j : S256x7168.Idx) (i : S9216x7168.Idx) (h1 : (i 1).val = (j 1).val)
    (hd : ∀ (k : S3072x256.Idx) (k' : S3072x9216.Idx), (k 0).val = (k' 0).val → (k 1).val = (j 0).val → (k' 1).val = (i 0).val → db k = dc k') :
    k1_pay1 (fun _ => sx) (fun _ => sy) (k1_pay27 db xc) j = prodDw sx sy xc dc i := by
  have e : k1_pay1 (fun _ => sx) (fun _ => sy) (k1_pay27 db xc)
      = mulf (matmul dot_S3072x256_S3072x7168_S256x7168_0_0_1_1_n_n none (shapeCast S3072x256 db shapeCasts_S3072x256_S3072x256)
          (shapeCast S3072x7168 xc shapeCasts_S3072x7168_S3072x7168) (constant S256x7168 .f32 0x00000000#32)) (fun _ => Scalar.mulf sy sx) := rfl
  rw [e, shapeCast_self, shapeCast_self]
  refine congrArg (fun a : EReal => a * (Scalar.mulf sy sx : EReal)) ?_
  refine congrArg (fun a : EReal => Ideal.ofBits .f32 0x00000000#32 + a) ?_
  refine Finset.sum_congr rfl fun k _ => ?_
  refine congrArg₂ (fun a b : EReal => a * b) (hd _ _ rfl rfl rfl) (congrArg xc (idx2_ext rfl h1.symm))

theorem dx_scale (h : Vec Ideal S1x16 .f32) : k2_pay1 (F := Ideal) (k2_pay14 h) (k2_pay15 h) = k1_pay6 (k1_pay3 h) (k1_pay4 (F := Ideal)) c9 := rfl

theorem dx_block (sw sy : Ideal .f32) (a : IVec S1x1 32) (b : IVec S1x1 1) (hs : k2_pay1 (F := Ideal) a b = fun _ => sy)
    (wc : FVec Ideal S9216x7168 .fp8e4m3) (dc : FVec Ideal S3072x9216 .fp8e5m2) (wb : FVec Ideal S9216x512 .fp8e4m3)
    (j : S3072x512.Idx) (i : S3072x7168.Idx) (h0 : (i 0).val = (j 0).val)
    (hw : ∀ (k : S9216x512.Idx) (k' : S9216x7168.Idx), (k 0).val = (k' 0).val → (k 1).val = (j 1).val → (k' 1).val = (i 1).val → wb k = wc k') :
    k2_pay2 (fun _ => sw) a b dc wb j = prodDx sw sy wc dc i := by
  have e : k2_pay2 (fun _ => sw) a b dc wb
      = mulf (matmul dot_S3072x9216_S9216x512_S3072x512_1_0_0_1_n_n none (shapeCast S3072x9216 dc shapeCasts_S3072x9216_S3072x9216)
          (shapeCast S9216x512 wb shapeCasts_S9216x512_S9216x512) (constant S3072x512 .f32 0x00000000#32))
          (broadcastTo S3072x512 (mulf (k2_pay1 (F := Ideal) a b) (fun _ => sw)) broadcasts_S1x1_S3072x512) := rfl
  rw [e, shapeCast_self, shapeCast_self, hs]
  refine congrArg (fun a : EReal => a * (Scalar.mulf sy sw : EReal)) ?_
  refine congrArg (fun a : EReal => Ideal.ofBits .f32 0x00000000#32 + a) ?_
  refine Finset.sum_congr rfl fun k _ => ?_
  refine congrArg₂ (fun a b : EReal => a * b) (congrArg dc (idx2_ext h0.symm rfl)) (hw _ _ rfl rfl rfl)

end Cert.KernelIdeal.Value

end
-- ==== Proof.Value.Arr1.lean ====
/- The second kernel's arrays: the output, the weight's gradient, the codes, and the running largest magnitudes. -/
module

public import proofs.«01_k».proof.Proof.Value.Prod
public import proofs.«01_k».proof.Proof.KernelIdeal.Dat1

@[expose] public section

set_option maxRecDepth 16384

noncomputable section

namespace Cert.KernelIdeal.Value

open Cert.KernelIdeal Cert.KernelIdeal.Gen Cert.Scale
open Idealize.ShloMosaic Idealize.ShloMosaic.TcCoe
open Idealize.ShloMosaic.Pipeline (Dat Cfg Window)

variable (W : (c : Dev nD) → Valuation τ sig (Elt Ideal)) (c : Dev nD)

/-! Where a block's place lies in its array. -/

theorem index1_rows : ∀ t : Fin grid1.N, win1_2.index t 0 = t.val ∧ win1_2.index t 1 = 0 ∧ win1_5.index t 0 = t.val ∧ win1_5.index t 1 = 0
    ∧ win1_6.index t 0 = t.val ∧ win1_6.index t 1 = 0 := by decide +kernel
theorem index1_cols : ∀ t : Fin grid1.N, win1_3.index t 0 = 0 ∧ win1_3.index t 1 = t.val ∧ win1_4.index t 0 = 0 ∧ win1_4.index t 1 = t.val
    ∧ win1_7.index t 0 = 0 ∧ win1_7.index t 1 = t.val := by decide +kernel
theorem index1_whole : ∀ t : Fin grid1.N, (∀ a, win1_0.index t a = 0) ∧ (∀ a, win1_1.index t a = 0) ∧ (∀ a, win1_8.index t a = 0)
    ∧ (∀ a, win1_9.index t a = 0) := by decide +kernel

theorem emb1_0 (t : Fin cfg1.N) (j : S3x16.Idx) : (win1_0.blk t).view.emb j = j :=
  funext fun a => Fin.ext ((Window.rect_emb_val win1_0 t j a).trans (by rw [(index1_whole t).1 a]; omega))
theorem emb1_1 (t : Fin cfg1.N) (j : S3072x7168.Idx) : (win1_1.blk t).view.emb j = j :=
  funext fun a => Fin.ext ((Window.rect_emb_val win1_1 t j a).trans (by rw [(index1_whole t).2.1 a]; omega))
theorem emb1_8 (t : Fin cfg1.N) (j : S16x128.Idx) : (win1_8.blk t).view.emb j = j :=
  funext fun a => Fin.ext ((Window.rect_emb_val win1_8 t j a).trans (by rw [(index1_whole t).2.2.1 a]; omega))
theorem emb1_9 (t : Fin cfg1.N) (j : S16x128.Idx) : (win1_9.blk t).view.emb j = j :=
  funext fun a => Fin.ext ((Window.rect_emb_val win1_9 t j a).trans (by rw [(index1_whole t).2.2.2 a]; omega))

/-- A place of a block of rows, and of a block of columns. -/
def atRow (t : Fin cfg1.N) (j : S256x7168.Idx) : S9216x7168.Idx := (win1_2.blk t).view.emb j
def atCol (t : Fin cfg1.N) (j : S3072x256.Idx) : S3072x9216.Idx := (win1_3.blk t).view.emb j

theorem atRow_0 (t : Fin cfg1.N) (j : S256x7168.Idx) : (atRow t j 0).val = t.val * 256 + (j 0).val :=
  (Window.rect_emb_val win1_2 t j 0).trans (by rw [(index1_rows t).1]; rfl)
theorem atRow_1 (t : Fin cfg1.N) (j : S256x7168.Idx) : (atRow t j 1).val = (j 1).val :=
  (Window.rect_emb_val win1_2 t j 1).trans (by rw [(index1_rows t).2.1]; omega)
theorem atCol_0 (t : Fin cfg1.N) (j : S3072x256.Idx) : (atCol t j 0).val = (j 0).val :=
  (Window.rect_emb_val win1_3 t j 0).trans (by rw [(index1_cols t).1]; omega)
theorem atCol_1 (t : Fin cfg1.N) (j : S3072x256.Idx) : (atCol t j 1).val = t.val * 256 + (j 1).val :=
  (Window.rect_emb_val win1_3 t j 1).trans (by rw [(index1_cols t).2.1]; rfl)

theorem emb1_5 (t : Fin cfg1.N) (j : S256x7168.Idx) : ((win1_5.blk t).view.emb j : S9216x7168.Idx) = atRow t j :=
  idx2_ext ((Window.rect_emb_val win1_5 t j 0).trans (by rw [(index1_rows t).2.2.1, atRow_0]; rfl))
    ((Window.rect_emb_val win1_5 t j 1).trans (by rw [(index1_rows t).2.2.2.1, atRow_1]; omega))
theorem emb1_6 (t : Fin cfg1.N) (j : S256x7168.Idx) : ((win1_6.blk t).view.emb j : S9216x7168.Idx) = atRow t j :=
  idx2_ext ((Window.rect_emb_val win1_6 t j 0).trans (by rw [(index1_rows t).2.2.2.2.1, atRow_0]; rfl))
    ((Window.rect_emb_val win1_6 t j 1).trans (by rw [(index1_rows t).2.2.2.2.2, atRow_1]; omega))
theorem emb1_4 (t : Fin cfg1.N) (j : S3072x256.Idx) : ((win1_4.blk t).view.emb j : S3072x9216.Idx) = atCol t j :=
  idx2_ext ((Window.rect_emb_val win1_4 t j 0).trans (by rw [(index1_cols t).2.2.1, atCol_0]; omega))
    ((Window.rect_emb_val win1_4 t j 1).trans (by rw [(index1_cols t).2.2.2.1, atCol_1]; rfl))
theorem emb1_7 (t : Fin cfg1.N) (j : S3072x256.Idx) : ((win1_7.blk t).view.emb j : S3072x9216.Idx) = atCol t j :=
  idx2_ext ((Window.rect_emb_val win1_7 t j 0).trans (by rw [(index1_cols t).2.2.2.2.1, atCol_0]; omega))
    ((Window.rect_emb_val win1_7 t j 1).trans (by rw [(index1_cols t).2.2.2.2.2, atCol_1]; rfl))

theorem iblk1_0 (t : Fin cfg1.N) : R1.iblk W c 0 t = W c (Proc.devRef .tc main_arg3) :=
  funext fun j => congrArg (W c (Proc.devRef .tc main_arg3)) (emb1_0 t j)
theorem iblk1_1 (t : Fin cfg1.N) : R1.iblk W c 1 t = W c (Proc.devRef .tc main_v2_0) :=
  funext fun j => congrArg (W c (Proc.devRef .tc main_v2_0)) (emb1_1 t j)

/-! The blocks the body leaves. -/

theorem wCodes_eq (H : Vec Ideal S3x16 .f32) (hH : Fin48 H) (x : Vec Ideal S256x7168 .bf16) :
    R1.wCodes H x = quant8 (s := S256x7168) (inv (mag (row1 H) c8)) x := by
  show k1_pay20 (k1_pay7 (k1_pay3 (row1 H)) (k1_pay4 (F := Ideal)) c8) x = _
  rw [inv1 _ (fin_row1 hH), pay20]
theorem dyCodes_eq (H : Vec Ideal S3x16 .f32) (hH : Fin48 H) (x : Vec Ideal S3072x256 .bf16) :
    R1.dyCodes H x = quant5 (s := S3072x256) (inv (mag (row2 H) c9)) x := by
  have e : k1_pay21 x = x := shapeCast_self _ _
  show k1_pay25 (k1_pay11 (k1_pay8 (row2 H))) (k1_pay21 x) = _
  rw [dyInv1, inv2 _ (fin_row2 hH), e, pay25]
theorem xScale_eq (H : Vec Ideal S3x16 .f32) (hH : Fin48 H) : R1.xScale H = fun _ => scale (mag (row0 H) c8) :=
  (xScale1 _).trans (scale1 _ (fin_row0 hH))
theorem wScale_eq (H : Vec Ideal S3x16 .f32) (hH : Fin48 H) : R1.wScale H = fun _ => scale (mag (row1 H) c8) := scale1 _ (fin_row1 hH)
theorem dyScale_eq (H : Vec Ideal S3x16 .f32) (hH : Fin48 H) : R1.dyScale H = fun _ => scale (mag (row2 H) c9) :=
  (dyScale1 _).trans (scale2 _ (fin_row2 hH))

/-- The history and the two codes, whole. -/
abbrev hist1 : Vec Ideal S3x16 .f32 := W c (Proc.devRef .tc main_arg3)
abbrev wc1 : FVec Ideal S9216x7168 .fp8e4m3 := quant8 (s := S9216x7168) (inv (mag (row1 (hist1 W c)) c8)) (W c (Proc.devRef .tc main_arg1))
abbrev dc1 : FVec Ideal S3072x9216 .fp8e5m2 := quant5 (s := S3072x9216) (inv (mag (row2 (hist1 W c)) c9)) (W c (Proc.devRef .tc main_v1))

variable (hH : Fin48 (W c (Proc.devRef .tc main_arg3)))
include hH

/-- The codes of the weight. -/
theorem arr1_6 : (R1.dat W c).arrAt 6 cfg1.N = wc1 W c := by
  refine (R1.dat W c).arrAt_eq_of_covers 6 _ (by decide +kernel) fun t _ y => ?_
  have e := congrFun ((R1.after_6 W c t).trans ((congrArg (R1.wCodes · _) (iblk1_0 W c t)).trans (wCodes_eq _ hH _))) y
  exact Eq.trans e (congrArg (wc1 W c) (emb1_6 t y).symm)

/-- The codes of the output's gradient. -/
theorem arr1_7 : (R1.dat W c).arrAt 7 cfg1.N = dc1 W c := by
  refine (R1.dat W c).arrAt_eq_of_covers 7 _ (by decide +kernel) fun t _ y => ?_
  have e := congrFun ((R1.after_7 W c t).trans ((congrArg (R1.dyCodes · _) (iblk1_0 W c t)).trans (dyCodes_eq _ hH _))) y
  exact Eq.trans e (congrArg (dc1 W c) (emb1_7 t y).symm)

/-- The output. -/
theorem arr1_4 : (R1.dat W c).arrAt 4 cfg1.N
    = prodY (scale (mag (row0 (hist1 W c)) c8)) (scale (mag (row1 (hist1 W c)) c8)) (W c (Proc.devRef .tc main_v2_0)) (wc1 W c) := by
  refine (R1.dat W c).arrAt_eq_of_covers 4 _ (by decide +kernel) fun t _ y => ?_
  have e : (R1.dat W c).after 4 t = k1_pay26 (fun _ => scale (mag (row0 (hist1 W c)) c8)) (fun _ => scale (mag (row1 (hist1 W c)) c8))
      (W c (Proc.devRef .tc main_v2_0)) (quant8 (s := S256x7168) (inv (mag (row1 (hist1 W c)) c8)) (R1.iblk W c 2 t)) := by
    refine (R1.after_4 W c t).trans ?_
    rw [iblk1_0, iblk1_1]
    show k1_pay26 (R1.xScale (hist1 W c)) (R1.wScale (hist1 W c)) _ (R1.wCodes (hist1 W c) _) = _
    rw [xScale_eq _ hH, wScale_eq _ hH, wCodes_eq _ hH]
  refine Eq.trans (congrFun e y) ?_
  refine (y_block _ _ _ (wc1 W c) _ y (atCol t y) (atCol_0 t y) fun k k' h0 h1 h2 => ?_).trans (congrArg _ (emb1_4 t y).symm)
  exact congrArg (wc1 W c) (idx2_ext ((atRow_0 t k).trans (by rw [h0, h1, atCol_1])) ((atRow_1 t k).trans h2) : atRow t k = k')

/-- The weight's gradient. -/
theorem arr1_5 : (R1.dat W c).arrAt 5 cfg1.N
    = prodDw (scale (mag (row0 (hist1 W c)) c8)) (scale (mag (row2 (hist1 W c)) c9)) (W c (Proc.devRef .tc main_v2_0)) (dc1 W c) := by
  refine (R1.dat W c).arrAt_eq_of_covers 5 _ (by decide +kernel) fun t _ y => ?_
  have e : (R1.dat W c).after 5 t = k1_pay1 (fun _ => scale (mag (row0 (hist1 W c)) c8)) (fun _ => scale (mag (row2 (hist1 W c)) c9))
      (k1_pay27 (quant5 (s := S3072x256) (inv (mag (row2 (hist1 W c)) c9)) (R1.iblk W c 3 t)) (W c (Proc.devRef .tc main_v2_0))) := by
    refine (R1.after_5 W c t).trans ?_
    rw [iblk1_0, iblk1_1]
    show k1_pay1 (R1.xScale (hist1 W c)) (R1.dyScale (hist1 W c)) (k1_pay27 (R1.dyCodes (hist1 W c) _) _) = _
    rw [xScale_eq _ hH, dyScale_eq _ hH, dyCodes_eq _ hH]
  refine Eq.trans (congrFun e y) ?_
  refine (dw_block _ _ _ (dc1 W c) _ y (atRow t y) (atRow_1 t y) fun k k' h0 h1 h2 => ?_).trans (congrArg _ (emb1_5 t y).symm)
  exact congrArg (dc1 W c) (idx2_ext ((atCol_0 t k).trans h0) ((atCol_1 t k).trans (by rw [h1, h2, atRow_0])) : atCol t k = k')

omit hH

theorem last1 : 35 < cfg1.N := by rw [show cfg1.N = 36 from N_1]; decide

/-! The tiles of largest magnitudes. -/

theorem arr1_8 : (R1.dat W c).arrAt 8 cfg1.N = R1.wAccAt W c 35 last1 := by
  refine (R1.dat W c).arrAt_eq_of_covers 8 _ (by decide +kernel) fun t hf y => ?_
  have ht : t = ⟨35, last1⟩ := Fin.ext (by
    have := (flush1_8 t).mp hf; have hN : t.val < 36 := lt_of_lt_of_eq t.isLt (show cfg1.N = 36 from N_1); show t.val = 35; omega)
  subst ht
  exact (congrFun (R1.after_8 W c _) y).trans (congrArg (R1.wAccAt W c 35 _) (emb1_8 _ y).symm)
theorem arr1_9 : (R1.dat W c).arrAt 9 cfg1.N = R1.dyAccAt W c 35 last1 := by
  refine (R1.dat W c).arrAt_eq_of_covers 9 _ (by decide +kernel) fun t hf y => ?_
  have ht : t = ⟨35, last1⟩ := Fin.ext (by
    have := (flush1_9 t).mp hf; have hN : t.val < 36 := lt_of_lt_of_eq t.isLt (show cfg1.N = 36 from N_1); show t.val = 35; omega)
  subst ht
  exact (congrFun (R1.after_9 W c _) y).trans (congrArg (R1.dyAccAt W c 35 _) (emb1_9 _ y).symm)

theorem not_first (n : ℕ) (hn : n + 1 < cfg1.N) : ¬ R1.cond (grid1.coords ⟨n + 1, hn⟩) :=
  fun h => absurd ((R1.hcond ⟨n + 1, hn⟩).mp h) (Nat.succ_ne_zero n)

theorem wAccAt_le (B : EReal) : ∀ (n : ℕ) (hn : n < cfg1.N), AllLe (s := S16x128) (φ := .bf16) (R1.wAccAt W c n hn) B
    ↔ 0 ≤ B ∧ ∀ (k : ℕ) (hk : k < cfg1.N), k ≤ n → AbsLe (s := S256x7168) (φ := .bf16) (R1.iblk W c 2 ⟨k, hk⟩) B
  | 0, hn => by
    have e : R1.wAccAt W c 0 hn = maximumf (shapeCast S16x128 (k1_pay18 (F := Ideal)) shapeCasts_S16x128_S16x128) (foldMax (R1.iblk W c 2 ⟨0, hn⟩)) := by
      show R1.wAcc _ _ _ = _
      unfold R1.wAcc
      rw [ite_self]
      exact pay1 _ _
    rw [e, foldStep_le, zero_le16]
    exact and_congr Iff.rfl ⟨fun h k hk h0 => by obtain rfl := Nat.le_zero.mp h0; exact h, fun h => h 0 hn le_rfl⟩
  | n + 1, hn => by
    have e : R1.wAccAt W c (n + 1) hn = maximumf (shapeCast S16x128 (R1.wAccAt W c n (Nat.lt_of_succ_lt hn)) shapeCasts_S16x128_S16x128)
        (foldMax (R1.iblk W c 2 ⟨n + 1, hn⟩)) := by
      show R1.wAcc _ _ _ = _
      unfold R1.wAcc
      rw [if_neg (not_first n hn)]
      exact pay1 _ _
    rw [e, foldStep_le, wAccAt_le B n _, and_assoc]
    refine and_congr Iff.rfl ⟨fun h k hk h0 => ?_, fun h => ⟨fun k hk h0 => h k hk (Nat.le_succ_of_le h0), h _ hn le_rfl⟩⟩
    rcases Nat.lt_or_eq_of_le h0 with hl | rfl
    · exact h.1 k hk (Nat.le_of_lt_succ hl)
    · exact h.2

theorem dyAccAt_le (B : EReal) : ∀ (n : ℕ) (hn : n < cfg1.N), AllLe (s := S16x128) (φ := .bf16) (R1.dyAccAt W c n hn) B
    ↔ 0 ≤ B ∧ ∀ (k : ℕ) (hk : k < cfg1.N), k ≤ n → AbsLe (s := S3072x256) (φ := .bf16) (R1.iblk W c 3 ⟨k, hk⟩) B
  | 0, hn => by
    have e : R1.dyAccAt W c 0 hn = k1_pay24 (k1_pay22 (R1.iblk W c 3 ⟨0, hn⟩)) (k1_pay18 (F := Ideal)) := by
      show R1.dyAcc _ _ _ = _
      unfold R1.dyAcc
      rw [ite_self]
      rfl
    rw [e, dyMax_le, zero_le16]
    exact and_congr Iff.rfl ⟨fun h k hk h0 => by obtain rfl := Nat.le_zero.mp h0; exact h, fun h => h 0 hn le_rfl⟩
  | n + 1, hn => by
    have e : R1.dyAccAt W c (n + 1) hn = k1_pay24 (k1_pay22 (R1.iblk W c 3 ⟨n + 1, hn⟩)) (R1.dyAccAt W c n (Nat.lt_of_succ_lt hn)) := by
      show R1.dyAcc _ _ _ = _
      unfold R1.dyAcc
      rw [if_neg (not_first n hn)]
    rw [e, dyMax_le, dyAccAt_le B n _, and_assoc]
    refine and_congr Iff.rfl ⟨fun h k hk h0 => ?_, fun h => ⟨fun k hk h0 => h k hk (Nat.le_succ_of_le h0), h _ hn le_rfl⟩⟩
    rcases Nat.lt_or_eq_of_le h0 with hl | rfl
    · exact h.1 k hk (Nat.le_of_lt_succ hl)
    · exact h.2

theorem cover1_rows (i : S9216x7168.Idx) : ∃ (t : Fin cfg1.N) (y : S256x7168.Idx), atRow t y = i := by
  obtain ⟨t, -, hi⟩ := (show (cfg1.win 6).Covers by decide +kernel).cover _ (Memref.isWhole_whole _) i
  obtain ⟨y, hy⟩ := View.exists_emb_of_mem_set _ hi
  exact ⟨t, y, (emb1_6 t y).symm.trans hy⟩
theorem cover1_cols (i : S3072x9216.Idx) : ∃ (t : Fin cfg1.N) (y : S3072x256.Idx), atCol t y = i := by
  obtain ⟨t, -, hi⟩ := (show (cfg1.win 7).Covers by decide +kernel).cover _ (Memref.isWhole_whole _) i
  obtain ⟨y, hy⟩ := View.exists_emb_of_mem_set _ hi
  exact ⟨t, y, (emb1_7 t y).symm.trans hy⟩

/-- The tiles of maxima bound exactly the magnitudes of the weight and of the output's gradient. -/
theorem arr1_8_le (B : EReal) : AllLe (s := S16x128) (φ := .bf16) ((R1.dat W c).arrAt 8 cfg1.N) B
    ↔ 0 ≤ B ∧ AbsLe (s := S9216x7168) (φ := .bf16) (W c (Proc.devRef .tc main_arg1)) B := by
  rw [arr1_8, wAccAt_le]
  refine and_congr Iff.rfl ⟨fun h i => ?_, fun h k hk _ y => h _⟩
  obtain ⟨t, y, rfl⟩ := cover1_rows i
  have ht : t.val < 36 := lt_of_lt_of_eq t.isLt (show cfg1.N = 36 from N_1)
  exact h t.val t.isLt (by omega) y
theorem arr1_9_le (B : EReal) : AllLe (s := S16x128) (φ := .bf16) ((R1.dat W c).arrAt 9 cfg1.N) B
    ↔ 0 ≤ B ∧ AbsLe (s := S3072x9216) (φ := .bf16) (W c (Proc.devRef .tc main_v1)) B := by
  rw [arr1_9, dyAccAt_le]
  refine and_congr Iff.rfl ⟨fun h i => ?_, fun h k hk _ y => h _⟩
  obtain ⟨t, y, rfl⟩ := cover1_cols i
  have ht : t.val < 36 := lt_of_lt_of_eq t.isLt (show cfg1.N = 36 from N_1)
  exact h t.val t.isLt (by omega) y

end Cert.KernelIdeal.Value

end
-- ==== Proof.Value.Arr2.lean ====
/- The third kernel's arrays: the input's gradient, the next history, and the scales. -/
module

public import proofs.«01_k».proof.Proof.Value.Prod
public import proofs.«01_k».proof.Proof.KernelIdeal.Dat2

@[expose] public section

set_option maxRecDepth 16384

noncomputable section

namespace Cert.KernelIdeal.Value

open Cert.KernelIdeal Cert.KernelIdeal.Gen Cert.Scale
open Idealize.ShloMosaic Idealize.ShloMosaic.TcCoe
open Idealize.ShloMosaic.Pipeline (Dat Cfg Window)

/-- One of three, by a row's number. -/
def three {α : Type} (a b c : α) (r : ℕ) : α := if r = 0 then a else if r = 1 then b else c

/-- Each row moved on by one column, a new entry in front. -/
def shifted (f : ℕ → EReal) (H : Vec Ideal S3x16 .f32) : Vec Ideal S3x16 .f32 := fun i =>
  if (i 1).val = 0 then f (i 0).val else H (ValueIdx.ix2 (⟨(i 0).val, (i 0).isLt⟩ : Fin 3) (⟨(i 1).val - 1, lt_of_le_of_lt (Nat.sub_le _ _) (i 1).isLt⟩ : Fin 16))

theorem shifted_head (f : ℕ → EReal) (H : Vec Ideal S3x16 .f32) (i : S3x16.Idx) (h : (i 1).val = 0) : shifted f H i = f (i 0).val := if_pos h
theorem shifted_tail (f : ℕ → EReal) (H : Vec Ideal S3x16 .f32) (i k : S3x16.Idx) (h0 : (k 0).val = (i 0).val) (h1 : (i 1).val = (k 1).val + 1) :
    shifted f H i = H k :=
  (if_neg (by omega)).trans (congrArg H (idx2_ext h0.symm (by show (i 1).val - 1 = (k 1).val; omega)))

/-- The two kinds of store in a row. -/
theorem head_at (f : ℕ → EReal) (H : Vec Ideal S3x16 .f32) (r : ℕ) (inb : ∀ a, (![r, 0] : Fin 2 → ℕ) a + S1x1.size a ≤ S3x16.size a) (x : S1x1.Idx) :
    shifted f H ((Rect.unit (s := S3x16) ![r, 0] S1x1.size inb).emb x) = f r := by
  have h0 : (x 0).val < 1 := (x 0).isLt
  have h1 : (x 1).val < 1 := (x 1).isLt
  exact (shifted_head f H _ (by show 0 + 1 * (x 1).val = 0; omega)).trans (congrArg f (by show r + 1 * (x 0).val = r; omega))
theorem tail_at (f : ℕ → EReal) (H : Vec Ideal S3x16 .f32) (r : ℕ) (inb : ∀ a, (![r, 1] : Fin 2 → ℕ) a + S1x15.size a ≤ S3x16.size a)
    (inb' : ∀ a, (![r, 0] : Fin 2 → ℕ) a + S1x15.size a ≤ S3x16.size a) (x : S1x15.Idx) :
    shifted f H ((Rect.unit (s := S3x16) ![r, 1] S1x15.size inb).emb x) = View.ld H (Rect.unit (s := S3x16) ![r, 0] S1x15.size inb') x :=
  shifted_tail f H _ ((Rect.unit (s := S3x16) ![r, 0] S1x15.size inb').emb x) rfl (by show 1 + 1 * (x 1).val = 0 + 1 * (x 1).val + 1; omega)

theorem newHist_eq (H : Vec Ideal S3x16 .f32) (x1 x2 x3 : Vec Ideal S16x128 .bf16) :
    R2.newHist H x1 x2 x3 = shifted (three (k2_pay5 (F := Ideal) x1 o) (k2_pay7 (F := Ideal) x2 o) (k2_pay3 (F := Ideal) (k2_pay9 x3) o)) H := by
  obtain ⟨f, hf⟩ : ∃ f, f = three (k2_pay5 (F := Ideal) x1 o) (k2_pay7 (F := Ideal) x2 o) (k2_pay3 (F := Ideal) (k2_pay9 x3) o) := ⟨_, rfl⟩
  have g0 : k2_pay5 (F := Ideal) x1 o = f 0 := by rw [hf]; rfl
  have g1 : k2_pay7 (F := Ideal) x2 o = f 1 := by rw [hf]; rfl
  have g2 : k2_pay3 (F := Ideal) (k2_pay9 x3) o = f 2 := by rw [hf]; rfl
  rw [← hf]
  clear hf
  funext y
  unfold R2.newHist
  refine View.canon_apply_of_pieces (Val := Elt Ideal) (e := .f32) (shifted f H) _ (fun p hp x => ?_) y (R2.histCover (F := Ideal) _ _ _ _ _ _ y)
  simp only [List.mem_cons, List.not_mem_nil, or_false] at hp
  rcases hp with rfl | rfl | rfl | rfl | rfl | rfl
  · exact ((congrArg (k2_pay3 (F := Ideal) (k2_pay9 x3)) (idx11 x o)).trans g2).trans (head_at f H 2 inb_S3x16_S1x1_2_0 x).symm
  · exact (tail_at f H 2 inb_S3x16_S1x15_2_1 inb_S3x16_S1x15_2_0 x).symm
  · exact ((congrArg (k2_pay7 (F := Ideal) x2) (idx11 x o)).trans g1).trans (head_at f H 1 inb_S3x16_S1x1_1_0 x).symm
  · exact (tail_at f H 1 inb_S3x16_S1x15_1_1 inb_S3x16_S1x15_1_0 x).symm
  · exact ((congrArg (k2_pay5 (F := Ideal) x1) (idx11 x o)).trans g0).trans (head_at f H 0 inb_S3x16_S1x1_0_0 x).symm
  · exact (tail_at f H 0 inb_S3x16_S1x15_0_1 inb_S3x16_S1x15_0_0 x).symm

theorem scales_eq (H : Vec Ideal S3x16 .f32) (hH : Fin48 H) :
    R2.scales H = fun i : S3x128.Idx => three (scale (mag (row0 H) c8)) (scale (mag (row1 H) c8)) (scale (mag (row2 H) c9)) (i 0).val := by
  have e0 : R2.xScale H = fun _ => scale (mag (row0 H) c8) := (xScale2 _).trans (scale1 _ (fin_row0 hH))
  have e1 : R2.wScale H = fun _ => scale (mag (row1 H) c8) := (wScale2 _).trans (scale1 _ (fin_row1 hH))
  have e2 : k2_pay1 (F := Ideal) (k2_pay14 (row2 H)) (k2_pay15 (row2 H)) = fun _ => scale (mag (row2 H) c9) := (dx_scale _).trans (scale2 _ (fin_row2 hH))
  have f0 : k2_pay6 (R2.xScale H) = fun _ => scale (mag (row0 H) c8) := by rw [e0]; rfl
  have f1 : k2_pay8 (R2.wScale H) = fun _ => scale (mag (row1 H) c8) := by rw [e1]; rfl
  have f2 : k2_pay4 (F := Ideal) (k2_pay14 (row2 H)) (k2_pay15 (row2 H)) = fun _ => scale (mag (row2 H) c9) := by
    show broadcastTo S1x128 (shapeCast S1x1 (k2_pay1 (F := Ideal) (k2_pay14 (row2 H)) (k2_pay15 (row2 H))) shapeCasts_S1x1_S1x1) broadcasts_S1x1_S1x128 = _
    rw [e2]; rfl
  funext y
  unfold R2.scales
  refine View.canon_apply_of_pieces (Val := Elt Ideal) (e := .f32)
    (fun i : S3x128.Idx => three (scale (mag (row0 H) c8)) (scale (mag (row1 H) c8)) (scale (mag (row2 H) c9)) (i 0).val) _ (fun p hp x => ?_) y
    (R2.scaleCover (F := Ideal) _ _ _ y)
  simp only [List.mem_cons, List.not_mem_nil, or_false] at hp
  rcases hp with rfl | rfl | rfl
  · have hx : (x 0).val < 1 := (x 0).isLt
    exact (congrFun f2 x).trans (congrArg (three _ _ _) (show 2 = 2 + 1 * (x 0).val by omega))
  · have hx : (x 0).val < 1 := (x 0).isLt
    exact (congrFun f1 x).trans (congrArg (three _ _ _) (show 1 = 1 + 1 * (x 0).val by omega))
  · have hx : (x 0).val < 1 := (x 0).isLt
    exact (congrFun f0 x).trans (congrArg (three _ _ _) (show 0 = 0 + 1 * (x 0).val by omega))

variable (W : (c : Dev nD) → Valuation τ sig (Elt Ideal)) (c : Dev nD)

/-! Where a block's place lies in its array. -/

theorem index2_cols : ∀ t : Fin grid2.N, win2_5.index t 0 = 0 ∧ win2_5.index t 1 = t.val ∧ win2_6.index t 0 = 0 ∧ win2_6.index t 1 = t.val := by decide +kernel
theorem index2_whole : ∀ t : Fin grid2.N, (∀ a, win2_0.index t a = 0) ∧ (∀ a, win2_1.index t a = 0) ∧ (∀ a, win2_2.index t a = 0)
    ∧ (∀ a, win2_3.index t a = 0) ∧ (∀ a, win2_4.index t a = 0) ∧ (∀ a, win2_7.index t a = 0) ∧ (∀ a, win2_8.index t a = 0) := by decide +kernel

theorem emb2_0 (t : Fin cfg2.N) (j : S3x16.Idx) : (win2_0.blk t).view.emb j = j :=
  funext fun a => Fin.ext ((Window.rect_emb_val win2_0 t j a).trans (by rw [(index2_whole t).1 a]; omega))
theorem emb2_1 (t : Fin cfg2.N) (j : S16x128.Idx) : (win2_1.blk t).view.emb j = j :=
  funext fun a => Fin.ext ((Window.rect_emb_val win2_1 t j a).trans (by rw [(index2_whole t).2.1 a]; omega))
theorem emb2_2 (t : Fin cfg2.N) (j : S16x128.Idx) : (win2_2.blk t).view.emb j = j :=
  funext fun a => Fin.ext ((Window.rect_emb_val win2_2 t j a).trans (by rw [(index2_whole t).2.2.1 a]; omega))
theorem emb2_3 (t : Fin cfg2.N) (j : S16x128.Idx) : (win2_3.blk t).view.emb j = j :=
  funext fun a => Fin.ext ((Window.rect_emb_val win2_3 t j a).trans (by rw [(index2_whole t).2.2.2.1 a]; omega))
theorem emb2_4 (t : Fin cfg2.N) (j : S3072x9216.Idx) : (win2_4.blk t).view.emb j = j :=
  funext fun a => Fin.ext ((Window.rect_emb_val win2_4 t j a).trans (by rw [(index2_whole t).2.2.2.2.1 a]; omega))
theorem emb2_7 (t : Fin cfg2.N) (j : S3x16.Idx) : (win2_7.blk t).view.emb j = j :=
  funext fun a => Fin.ext ((Window.rect_emb_val win2_7 t j a).trans (by rw [(index2_whole t).2.2.2.2.2.1 a]; omega))
theorem emb2_8 (t : Fin cfg2.N) (j : S3x128.Idx) : (win2_8.blk t).view.emb j = j :=
  funext fun a => Fin.ext ((Window.rect_emb_val win2_8 t j a).trans (by rw [(index2_whole t).2.2.2.2.2.2 a]; omega))

theorem iblk2_0 (t : Fin cfg2.N) : R2.iblk W c 0 t = W c (Proc.devRef .tc main_arg3) :=
  funext fun j => congrArg (W c (Proc.devRef .tc main_arg3)) (emb2_0 t j)
theorem iblk2_1 (t : Fin cfg2.N) : R2.iblk W c 1 t = W c (Proc.devRef .tc main_v2_1) :=
  funext fun j => congrArg (W c (Proc.devRef .tc main_v2_1)) (emb2_1 t j)
theorem iblk2_2 (t : Fin cfg2.N) : R2.iblk W c 2 t = W c (Proc.devRef .tc main_v3_4) :=
  funext fun j => congrArg (W c (Proc.devRef .tc main_v3_4)) (emb2_2 t j)
theorem iblk2_3 (t : Fin cfg2.N) : R2.iblk W c 3 t = W c (Proc.devRef .tc main_v3_5) :=
  funext fun j => congrArg (W c (Proc.devRef .tc main_v3_5)) (emb2_3 t j)
theorem iblk2_4 (t : Fin cfg2.N) : R2.iblk W c 4 t = W c (Proc.devRef .tc main_v3_3) :=
  funext fun j => congrArg (W c (Proc.devRef .tc main_v3_3)) (emb2_4 t j)

/-- The history, whole. -/
abbrev hist2 : Vec Ideal S3x16 .f32 := W c (Proc.devRef .tc main_arg3)

theorem last2 : 13 < cfg2.N := by rw [show cfg2.N = 14 from N_2]; decide

/-- The next history. -/
theorem arr2_7 : (R2.dat W c).arrAt 7 cfg2.N
    = shifted (three (k2_pay5 (F := Ideal) (W c (Proc.devRef .tc main_v2_1)) o) (k2_pay7 (F := Ideal) (W c (Proc.devRef .tc main_v3_4)) o)
        (k2_pay3 (F := Ideal) (k2_pay9 (W c (Proc.devRef .tc main_v3_5))) o)) (hist2 W c) := by
  refine (R2.dat W c).arrAt_eq_of_covers 7 _ (by decide +kernel) fun t _ y => ?_
  have e : (R2.dat W c).after 7 t = R2.newHist (hist2 W c) (W c (Proc.devRef .tc main_v2_1)) (W c (Proc.devRef .tc main_v3_4)) (W c (Proc.devRef .tc main_v3_5)) := by
    refine (R2.after_7 W c t).trans ?_
    unfold R2.histOut
    rw [iblk2_0, iblk2_1, iblk2_2, iblk2_3]
  exact (congrFun (e.trans (newHist_eq _ _ _ _)) y).trans (congrArg (shifted _ _) (emb2_7 t y).symm)

variable (hH : Fin48 (W c (Proc.devRef .tc main_arg3)))
include hH

/-- The scales. -/
theorem arr2_8 : (R2.dat W c).arrAt 8 cfg2.N = fun i : S3x128.Idx =>
    three (scale (mag (row0 (hist2 W c)) c8)) (scale (mag (row1 (hist2 W c)) c8)) (scale (mag (row2 (hist2 W c)) c9)) (i 0).val := by
  refine (R2.dat W c).arrAt_eq_of_covers 8 _ (by decide +kernel) fun t _ y => ?_
  have e : (R2.dat W c).after 8 t = R2.scales (hist2 W c) := by
    refine (R2.after_8 W c t).trans ?_
    unfold R2.scaleOut
    rw [iblk2_0]
  exact (congrFun (e.trans (scales_eq _ hH)) y).trans
    (congrArg (fun i : S3x128.Idx => three (scale (mag (row0 (hist2 W c)) c8)) (scale (mag (row1 (hist2 W c)) c8)) (scale (mag (row2 (hist2 W c)) c9)) (i 0).val) (emb2_8 t y).symm)

/-- The input's gradient. -/
theorem arr2_6 : (R2.dat W c).arrAt 6 cfg2.N
    = prodDx (scale (mag (row1 (hist2 W c)) c8)) (scale (mag (row2 (hist2 W c)) c9)) (W c (Proc.devRef .tc main_v3_2)) (W c (Proc.devRef .tc main_v3_3)) := by
  refine (R2.dat W c).arrAt_eq_of_covers 6 _ (by decide +kernel) fun t _ y => ?_
  have ew : R2.wScale (hist2 W c) = fun _ => scale (mag (row1 (hist2 W c)) c8) := (wScale2 _).trans (scale1 _ (fin_row1 hH))
  have es : k2_pay1 (F := Ideal) (k2_pay14 (row2 (hist2 W c))) (k2_pay15 (row2 (hist2 W c))) = fun _ => scale (mag (row2 (hist2 W c)) c9) :=
    (dx_scale _).trans (scale2 _ (fin_row2 hH))
  have e : (R2.dat W c).after 6 t = k2_pay2 (fun _ => scale (mag (row1 (hist2 W c)) c8)) (k2_pay14 (row2 (hist2 W c))) (k2_pay15 (row2 (hist2 W c)))
      (W c (Proc.devRef .tc main_v3_3)) (R2.iblk W c 5 t) := by
    refine (R2.after_6 W c t).trans ?_
    rw [iblk2_0, iblk2_4, ← ew]
    rfl
  refine Eq.trans (congrFun e y) ?_
  refine dx_block _ _ _ _ es (W c (Proc.devRef .tc main_v3_2)) _ _ y ((win2_6.blk t).view.emb y)
    ((Window.rect_emb_val win2_6 t y 0).trans (by rw [(index2_cols t).2.2.1]; omega)) fun k k' h0 h1 h2 => ?_
  refine congrArg (W c (Proc.devRef .tc main_v3_2)) (idx2_ext ((Window.rect_emb_val win2_5 t k 0).trans ?_) ((Window.rect_emb_val win2_5 t k 1).trans ?_) :
    ((win2_5.blk t).view.emb k : S9216x7168.Idx) = k')
  · rw [(index2_cols t).1]; omega
  · rw [(index2_cols t).2.1, h1, h2]
    exact (by rw [(index2_cols t).2.2.2]; rfl : _ = _).trans (Window.rect_emb_val win2_6 t y 1).symm

end Cert.KernelIdeal.Value

end
-- ==== Proof.Value.KRes.lean ====
/- The kernel's ten results over the extended reals, as functions of its four arguments. -/
module

public import proofs.«01_k».proof.Proof.Value.Arr1
public import proofs.«01_k».proof.Proof.Value.Arr2
public import proofs.«01_k».proof.Proof.KernelIdeal.Frame

@[expose] public section

set_option maxRecDepth 16384

noncomputable section

namespace Cert.KernelIdeal.Value

open Cert.KernelIdeal Cert.KernelIdeal.Gen Cert.KernelIdeal.Whole Cert.Scale
open Idealize.ShloMosaic Idealize.ShloMosaic.TcCoe Idealize.ShloMosaic.StableHlo
open Idealize.ShloMosaic.Pipeline (Dat Cfg Window)

variable (m : (ℓ : Loc nD τ sig) → Buf (Elt Ideal) ℓ) (c : Dev nD)

/-- The activations and the gradient, with their first two axes made one; the weights; the history. -/
def X : Vec Ideal S3072x7168 .bf16 := shapeCast S3072x7168 (m ((c.tc : Thread nD τ).loc main_arg0)) shapeCasts_S3x1024x7168_S3072x7168
def Wt : Vec Ideal S9216x7168 .bf16 := m ((c.tc : Thread nD τ).loc main_arg1)
def Y : Vec Ideal S3072x9216 .bf16 := shapeCast S3072x9216 (m ((c.tc : Thread nD τ).loc main_arg2)) shapeCasts_S3x1024x9216_S3072x9216
def H : Vec Ideal S3x16 .f32 := m ((c.tc : Thread nD τ).loc main_arg3)

/-- Their codes. -/
def xq : FVec Ideal S3072x7168 .fp8e4m3 := quant8 (s := S3072x7168) (inv (mag (row0 (H m c)) c8)) (X m c)
def wq : FVec Ideal S9216x7168 .fp8e4m3 := quant8 (s := S9216x7168) (inv (mag (row1 (H m c)) c8)) (Wt m c)
def yq : FVec Ideal S3072x9216 .fp8e5m2 := quant5 (s := S3072x9216) (inv (mag (row2 (H m c)) c9)) (Y m c)

/-! Before the first kernel. -/

theorem w1_v0 : W1 m c (Proc.devRef .tc main_v0) = X m c := by
  unfold W1
  simp only [hostOps0]
  after_results <;> rfl
theorem w1_v1 : W1 m c (Proc.devRef .tc main_v1) = Y m c := by
  unfold W1
  simp only [hostOps0]
  after_results <;> rfl
theorem w1_h : W1 m c (Proc.devRef .tc main_arg3) = H m c := W1_keeps m c _ (by decide)
theorem w2_h : W2 m c (Proc.devRef .tc main_arg3) = H m c := (W2_keeps m c _ (by decide)).trans (w1_h m c)
theorem w3_h : W3 m c (Proc.devRef .tc main_arg3) = H m c := (W3_keeps m c _ (by decide)).trans (w2_h m c)
theorem w2_w : W2 m c (Proc.devRef .tc main_arg1) = Wt m c := (W2_keeps m c _ (by decide)).trans (W1_keeps m c _ (by decide))
theorem w2_v1 : W2 m c (Proc.devRef .tc main_v1) = Y m c := (W2_keeps m c _ (by decide)).trans (w1_v1 m c)

variable (hH : Fin48 (H m c))
include hH

/-! After the first kernel. -/

theorem w2_xq : W2 m c (Proc.devRef .tc main_v2_0) = xq m c :=
  (Pipeline.afterRegion_arr (R0.dat (W1 m) c) (W1 m c) launch0.win.arr_inj 2).trans
    ((arr0_2 (W1 m) c (by rw [w1_h]; exact hH)).trans (by rw [w1_h, w1_v0]; rfl))

/-! After the second. -/

theorem w3_y : W3 m c (Proc.devRef .tc main_v3_0) = prodY (scale (mag (row0 (H m c)) c8)) (scale (mag (row1 (H m c)) c8)) (xq m c) (wq m c) :=
  (Pipeline.afterRegion_arr (R1.dat (W2 m) c) (W2 m c) launch1.win.arr_inj 4).trans
    ((arr1_4 (W2 m) c (by rw [w2_h]; exact hH)).trans (by unfold wc1 hist1; rw [w2_h, w2_w, w2_xq m c hH]; rfl))
theorem w3_dw : W3 m c (Proc.devRef .tc main_v3_1) = prodDw (scale (mag (row0 (H m c)) c8)) (scale (mag (row2 (H m c)) c9)) (xq m c) (yq m c) :=
  (Pipeline.afterRegion_arr (R1.dat (W2 m) c) (W2 m c) launch1.win.arr_inj 5).trans
    ((arr1_5 (W2 m) c (by rw [w2_h]; exact hH)).trans (by unfold dc1 hist1; rw [w2_h, w2_v1, w2_xq m c hH]; rfl))
theorem w3_wq : W3 m c (Proc.devRef .tc main_v3_2) = wq m c :=
  (Pipeline.afterRegion_arr (R1.dat (W2 m) c) (W2 m c) launch1.win.arr_inj 6).trans
    ((arr1_6 (W2 m) c (by rw [w2_h]; exact hH)).trans (by unfold wc1 hist1; rw [w2_h, w2_w]; rfl))
theorem w3_yq : W3 m c (Proc.devRef .tc main_v3_3) = yq m c :=
  (Pipeline.afterRegion_arr (R1.dat (W2 m) c) (W2 m c) launch1.win.arr_inj 7).trans
    ((arr1_7 (W2 m) c (by rw [w2_h]; exact hH)).trans (by unfold dc1 hist1; rw [w2_h, w2_v1]; rfl))

/-! After the third. -/

theorem w4_dx : W4 m c (Proc.devRef .tc main_v4_0) = prodDx (scale (mag (row1 (H m c)) c8)) (scale (mag (row2 (H m c)) c9)) (wq m c) (yq m c) :=
  (Pipeline.afterRegion_arr (R2.dat (W3 m) c) (W3 m c) launch2.win.arr_inj 6).trans
    ((arr2_6 (W3 m) c (by rw [w3_h]; exact hH)).trans (by unfold hist2; rw [w3_h, w3_wq m c hH, w3_yq m c hH]))
theorem w4_scales : W4 m c (Proc.devRef .tc main_v4_2) = fun i : S3x128.Idx =>
    three (scale (mag (row0 (H m c)) c8)) (scale (mag (row1 (H m c)) c8)) (scale (mag (row2 (H m c)) c9)) (i 0).val :=
  (Pipeline.afterRegion_arr (R2.dat (W3 m) c) (W3 m c) launch2.win.arr_inj 8).trans
    ((arr2_8 (W3 m) c (by rw [w3_h]; exact hH)).trans (by unfold hist2; rw [w3_h]))
omit hH in
/-- The next history, its three new entries known by the bounds they keep. -/
theorem w4_hist : ∃ a b d : EReal, W4 m c (Proc.devRef .tc main_v4_1) = shifted (three a b d) (H m c)
    ∧ (∀ B, a ≤ B ↔ 0 ≤ B ∧ AbsLe (s := S3072x7168) (φ := .bf16) (X m c) B)
    ∧ (∀ B, b ≤ B ↔ 0 ≤ B ∧ AbsLe (s := S9216x7168) (φ := .bf16) (Wt m c) B)
    ∧ (∀ B, d ≤ B ↔ 0 ≤ B ∧ AbsLe (s := S3072x9216) (φ := .bf16) (Y m c) B) := by
  have at_o : ∀ (x : FVec Ideal S1x1 .f32) (B : EReal), (x o : EReal) ≤ B ↔ AllLe x B := fun x B => ⟨fun h i => idx11 o i ▸ h, fun h => h o⟩
  refine ⟨_, _, _, ((Pipeline.afterRegion_arr (R2.dat (W3 m) c) (W3 m c) launch2.win.arr_inj 7).trans (arr2_7 (W3 m) c)).trans
    (by unfold hist2; rw [w3_h]), fun B => ?_, fun B => ?_, fun B => ?_⟩
  · refine ((at_o _ B).trans (whole0_le _ B)).trans ?_
    have e : W3 m c (Proc.devRef .tc main_v2_1) = (R0.dat (W1 m) c).arrAt 3 cfg0.N :=
      (W3_keeps m c _ (by decide)).trans (Pipeline.afterRegion_arr (R0.dat (W1 m) c) (W1 m c) launch0.win.arr_inj 3)
    rw [e]
    exact (arr0_3_le (W1 m) c B).trans (by rw [w1_v0])
  · refine ((at_o _ B).trans (whole1_le _ B)).trans ?_
    have e : W3 m c (Proc.devRef .tc main_v3_4) = (R1.dat (W2 m) c).arrAt 8 cfg1.N :=
      Pipeline.afterRegion_arr (R1.dat (W2 m) c) (W2 m c) launch1.win.arr_inj 8
    rw [e]
    exact (arr1_8_le (W2 m) c B).trans (by rw [w2_w])
  · refine ((at_o _ B).trans (whole2_le _ B)).trans ?_
    have e : W3 m c (Proc.devRef .tc main_v3_5) = (R1.dat (W2 m) c).arrAt 9 cfg1.N :=
      Pipeline.afterRegion_arr (R1.dat (W2 m) c) (W2 m c) launch1.win.arr_inj 9
    rw [e]
    exact (arr1_9_le (W2 m) c B).trans (by rw [w2_v1])

end Cert.KernelIdeal.Value

end
-- ==== Proof.Value.KTail.lean ====
/- The kernel's ten results as the host hands them out. -/
module

public import proofs.«01_k».proof.Proof.Value.KRes

@[expose] public section

set_option maxRecDepth 16384

noncomputable section

namespace Cert.KernelIdeal.Value

open Cert.KernelIdeal Cert.KernelIdeal.Gen Cert.KernelIdeal.Whole Cert.Scale
open Idealize.ShloMosaic Idealize.ShloMosaic.TcCoe Idealize.ShloMosaic.StableHlo Idealize.SL.Sem

section Tail
variable (V : Valuation τ sig (Elt Ideal))

theorem tail_v5 : after hostOps3 V (Proc.devRef .tc main_v5) = shapeCast S3x1024x9216 (V (Proc.devRef .tc main_v3_0)) shapeCasts_S3072x9216_S3x1024x9216 := by
  simp only [hostOps3]
  after_results <;> rfl
theorem tail_v6 : after hostOps3 V (Proc.devRef .tc main_v6) = shapeCast S3x1024x7168 (V (Proc.devRef .tc main_v4_0)) shapeCasts_S3072x7168_S3x1024x7168 := by
  simp only [hostOps3]
  after_results <;> rfl
theorem tail_v7 : after hostOps3 V (Proc.devRef .tc main_v7) = shapeCast S3x1024x7168 (V (Proc.devRef .tc main_v2_0)) shapeCasts_S3072x7168_S3x1024x7168 := by
  simp only [hostOps3]
  after_results <;> rfl
theorem tail_v9 : after hostOps3 V (Proc.devRef .tc main_v9)
    = shapeCast S_ (extractStridedSlice S1x1 ![0, 0] (V (Proc.devRef .tc main_v4_2)) slices_S3x128_S1x1_0_0) shapeCasts_S1x1_S_ := by
  simp only [hostOps3]
  after_results <;> rfl
theorem tail_v11 : after hostOps3 V (Proc.devRef .tc main_v11)
    = shapeCast S_ (extractStridedSlice S1x1 ![1, 0] (V (Proc.devRef .tc main_v4_2)) slices_S3x128_S1x1_1_0) shapeCasts_S1x1_S_ := by
  simp only [hostOps3]
  after_results <;> rfl
theorem tail_v12 : after hostOps3 V (Proc.devRef .tc main_v12) = shapeCast S3x1024x9216 (V (Proc.devRef .tc main_v3_3)) shapeCasts_S3072x9216_S3x1024x9216 := by
  simp only [hostOps3]
  after_results <;> rfl
theorem tail_v14 : after hostOps3 V (Proc.devRef .tc main_v14)
    = shapeCast S_ (extractStridedSlice S1x1 ![2, 0] (V (Proc.devRef .tc main_v4_2)) slices_S3x128_S1x1_2_0) shapeCasts_S1x1_S_ := by
  simp only [hostOps3]
  after_results <;> rfl

end Tail

/-- One entry of the table of scales. -/
theorem scale_at {α : Type} (a b d : α) (r : ℕ) (h : S3x128.Slices ![r, 0] S1x1) :
    extractStridedSlice S1x1 ![r, 0] (fun i : S3x128.Idx => three a b d (i 0).val) h = fun _ => three a b d r := by
  funext j
  have hj : (j 0).val < 1 := (j 0).isLt
  exact congrArg (three a b d) (by show r + (j 0).val = r; omega)

variable (m : (ℓ : Loc nD τ sig) → Buf (Elt Ideal) ℓ) (c : Dev nD) (hH : Fin48 (H m c))

/-- Every execution ends with each buffer at `W5`. -/
theorem run_at (ρ : Dev nD → PrngReg) : θ_run defs (onTc (τ := τ) (main (F := Ideal))) ⟨m, fun _ => 0, ρ⟩ fun r => ∀ (c : Dev nD) (b : Ref sig .tc),
    Proc.devRef .tc b ∈ Pipeline.ucRefs τ sig → r.2.mem ((c.tc : Thread nD τ).loc b) = W5 m c (Proc.devRef .tc b) :=
  (θ_run defs _ _).mono (fun _ h c b hb => h.1 c _ hb) (Whole.run m ρ)

include hH

theorem w5_v5 : W5 m c (Proc.devRef .tc main_v5)
    = shapeCast S3x1024x9216 (prodY (scale (mag (row0 (H m c)) c8)) (scale (mag (row1 (H m c)) c8)) (xq m c) (wq m c)) shapeCasts_S3072x9216_S3x1024x9216 :=
  (tail_v5 _).trans (congrArg (shapeCast S3x1024x9216 · shapeCasts_S3072x9216_S3x1024x9216) ((W4_keeps m c _ (by decide)).trans (w3_y m c hH)))
theorem w5_v6 : W5 m c (Proc.devRef .tc main_v6)
    = shapeCast S3x1024x7168 (prodDx (scale (mag (row1 (H m c)) c8)) (scale (mag (row2 (H m c)) c9)) (wq m c) (yq m c)) shapeCasts_S3072x7168_S3x1024x7168 :=
  (tail_v6 _).trans (congrArg (shapeCast S3x1024x7168 · shapeCasts_S3072x7168_S3x1024x7168) (w4_dx m c hH))
theorem w5_v3_1 : W5 m c (Proc.devRef .tc main_v3_1) = prodDw (scale (mag (row0 (H m c)) c8)) (scale (mag (row2 (H m c)) c9)) (xq m c) (yq m c) :=
  (W5_keeps m c _ (by decide)).trans ((W4_keeps m c _ (by decide)).trans (w3_dw m c hH))
theorem w5_v7 : W5 m c (Proc.devRef .tc main_v7) = shapeCast S3x1024x7168 (xq m c) shapeCasts_S3072x7168_S3x1024x7168 :=
  (tail_v7 _).trans (congrArg (shapeCast S3x1024x7168 · shapeCasts_S3072x7168_S3x1024x7168)
    ((W4_keeps m c _ (by decide)).trans ((W3_keeps m c _ (by decide)).trans (w2_xq m c hH))))
theorem w5_v9 : W5 m c (Proc.devRef .tc main_v9) = fun _ => scale (mag (row0 (H m c)) c8) :=
  (tail_v9 _).trans (congrArg (shapeCast S_ · shapeCasts_S1x1_S_) ((congrArg (extractStridedSlice S1x1 ![0, 0] · slices_S3x128_S1x1_0_0) (w4_scales m c hH)).trans
    (scale_at _ _ _ 0 _)))
theorem w5_v3_2 : W5 m c (Proc.devRef .tc main_v3_2) = wq m c :=
  (W5_keeps m c _ (by decide)).trans ((W4_keeps m c _ (by decide)).trans (w3_wq m c hH))
theorem w5_v11 : W5 m c (Proc.devRef .tc main_v11) = fun _ => scale (mag (row1 (H m c)) c8) :=
  (tail_v11 _).trans (congrArg (shapeCast S_ · shapeCasts_S1x1_S_) ((congrArg (extractStridedSlice S1x1 ![1, 0] · slices_S3x128_S1x1_1_0) (w4_scales m c hH)).trans
    (scale_at _ _ _ 1 _)))
theorem w5_v12 : W5 m c (Proc.devRef .tc main_v12) = shapeCast S3x1024x9216 (yq m c) shapeCasts_S3072x9216_S3x1024x9216 :=
  (tail_v12 _).trans (congrArg (shapeCast S3x1024x9216 · shapeCasts_S3072x9216_S3x1024x9216) ((W4_keeps m c _ (by decide)).trans (w3_yq m c hH)))
theorem w5_v14 : W5 m c (Proc.devRef .tc main_v14) = fun _ => scale (mag (row2 (H m c)) c9) :=
  (tail_v14 _).trans (congrArg (shapeCast S_ · shapeCasts_S1x1_S_) ((congrArg (extractStridedSlice S1x1 ![2, 0] · slices_S3x128_S1x1_2_0) (w4_scales m c hH)).trans
    (scale_at _ _ _ 2 _)))

end Cert.KernelIdeal.Value

end
-- ==== Proof.Value.RefScal.lean ====
/- The reference's payloads over the extended reals: its scales, and the codes it takes from whole arrays. -/
module

public import proofs.«01_k».proof.Proof.Value.Prod
public import proofs.«01_k».proof.Proof.Gen.ReferenceIdeal.Frame
public import Idealize.ShloMosaic.Lib.Pipeline.ValueKit.Acc

@[expose] public section

set_option maxRecDepth 16384

noncomputable section

namespace Cert.ReferenceIdeal.Value

open Cert.ReferenceIdeal Cert.ReferenceIdeal.Gen Cert.Scale
open Idealize.ShloMosaic Idealize.ShloMosaic.TcCoe
open Idealize.ShloMosaic.Pipeline (Dat Cfg Window)
open Cert.KernelIdeal.Value (quant8 quant5 c8 c9 row0 row1 row2 idx1 prodY prodDx prodDw)

/-- The largest entry of a row, as the reference takes it. -/
theorem row_sup (h : Vec Ideal S1x16 .f32) :
    (extractAt ![0, 0, 0] (shapeCast S1x1x1 (multiReduction (F := Ideal) .maximumf [1, 2] S1 (shapeCast S1x1x16 h shapeCasts_S1x16_S1x1x16) 0xFF800000#32
      reduces_S1x1x16_S1 (.inl rfl) rfl) shapeCasts_S1_S1x1x1) inpos_S1x1x1_p0_0_0 : Ideal .f32) = (⨆ i, (h i : EReal) : EReal) :=
  (red_sup (shapeCast S1x1x16 h shapeCasts_S1x16_S1x1x16) reduces_S1x1x16_S1 (.inl rfl) rfl _ (fun k => idx1 _ _)).trans
    (sup_shapeCast (fun i => (h i : EReal)) shapeCasts_S1x16_S1x1x16)

theorem mag_row (h : Vec Ideal S1x16 .f32) : k0_pay10 h = mag h c8 :=
  congrArg (fun x : Ideal .f32 => (Scalar.absf (Scalar.mulf x c8) : Ideal .f32)) (row_sup h)
theorem expo0 (h : Vec Ideal S1x16 .f32) : k0_pay7 h = expo (mag h c8) :=
  (show k0_pay7 h = expo (k0_pay10 h) from rfl).trans (congrArg expo (mag_row h))
theorem expo1 (h : Vec Ideal S1x16 .f32) : k0_pay12 (k0_pay10 h) (k0_pay11 h) (Scalar.ofBits .f32 0x3F800000#32) = expo (mag h c8) :=
  (show k0_pay12 (k0_pay10 h) (k0_pay11 h) (Scalar.ofBits .f32 0x3F800000#32) = expo (k0_pay10 h) from rfl).trans (congrArg expo (mag_row h))
theorem expo2 (h : Vec Ideal S1x16 .f32) : k0_pay15 h = expo (mag h c9) :=
  congrArg (fun x : Ideal .f32 => expo (Scalar.absf (Scalar.mulf x c9))) (row_sup h)

theorem scale0 (h : Vec Ideal S1x16 .f32) : k0_pay8 h = scale (mag h c8) := congrArg (fun x : Ideal .f32 => (Scalar.exp2 x : Ideal .f32)) (expo0 h)
theorem scale1 (h : Vec Ideal S1x16 .f32) : k0_pay13 (k0_pay10 h) (k0_pay11 h) (Scalar.ofBits .f32 0x3F800000#32) = scale (mag h c8) :=
  congrArg (fun x : Ideal .f32 => (Scalar.exp2 x : Ideal .f32)) (expo1 h)
theorem scale2 (h : Vec Ideal S1x16 .f32) : k0_pay16 h = scale (mag h c9) := congrArg (fun x : Ideal .f32 => (Scalar.exp2 x : Ideal .f32)) (expo2 h)

theorem codes0 (x : Vec Ideal S3072x7168 .bf16) (h : Vec Ideal S1x16 .f32) : k0_pay9 x h = quant8 (s := S3072x7168) (inv (mag h c8)) x := by
  have e : k0_pay9 x h = quant8 (s := S3072x7168) (Scalar.exp2 (Scalar.subf (Scalar.ofBits .f32 0x00000000#32) (k0_pay7 h)))
      (shapeCast S3072x7168 x shapeCasts_S3072x7168_S3072x7168) := rfl
  rw [e, shapeCast_self, expo0]; rfl
theorem codes1 (x : Vec Ideal S9216x7168 .bf16) (h : Vec Ideal S1x16 .f32) :
    k0_pay14 x (k0_pay10 h) (k0_pay11 h) (Scalar.ofBits .f32 0x3F800000#32) = quant8 (s := S9216x7168) (inv (mag h c8)) x := by
  have e : k0_pay14 x (k0_pay10 h) (k0_pay11 h) (Scalar.ofBits .f32 0x3F800000#32)
      = quant8 (s := S9216x7168) (Scalar.exp2 (Scalar.subf (Scalar.ofBits .f32 0x00000000#32)
          (k0_pay12 (k0_pay10 h) (k0_pay11 h) (Scalar.ofBits .f32 0x3F800000#32)))) x := rfl
  rw [e, expo1]; rfl
theorem codes2 (x : Vec Ideal S3072x9216 .bf16) (h : Vec Ideal S1x16 .f32) : k0_pay17 x h = quant5 (s := S3072x9216) (inv (mag h c9)) x := by
  have e : k0_pay17 x h = quant5 (s := S3072x9216) (Scalar.exp2 (Scalar.subf (Scalar.ofBits .f32 0x00000000#32) (k0_pay15 h)))
      (shapeCast S3072x9216 x shapeCasts_S3072x9216_S3072x9216) := rfl
  rw [e, shapeCast_self, expo2]; rfl

variable (x : Vec Ideal S3072x7168 .bf16) (w : Vec Ideal S9216x7168 .bf16) (y : Vec Ideal S3072x9216 .bf16) (H : Vec Ideal S3x16 .f32)

/-- The codes of the three arrays. -/
abbrev xq : FVec Ideal S3072x7168 .fp8e4m3 := quant8 (s := S3072x7168) (inv (mag (row0 H) c8)) x
abbrev wq : FVec Ideal S9216x7168 .fp8e4m3 := quant8 (s := S9216x7168) (inv (mag (row1 H) c8)) w
abbrev yq : FVec Ideal S3072x9216 .fp8e5m2 := quant5 (s := S3072x9216) (inv (mag (row2 H) c9)) y

theorem pay18 : k0_pay18 x w y H = xq x H :=
  (congrArg (k0_pay9 · (row0 H)) (View.ld_unit_lit _ x (by decide))).trans (codes0 x (row0 H))
theorem pay19 : k0_pay19 x w y H = wq w H :=
  (congrArg (k0_pay14 · (k0_pay10 (row1 H)) (k0_pay11 (row1 H)) (Scalar.ofBits .f32 0x3F800000#32)) (View.ld_unit_lit _ w (by decide))).trans (codes1 w (row1 H))
theorem pay20 : k0_pay20 x w y H = yq y H :=
  (congrArg (k0_pay17 · (row2 H)) (View.ld_unit_lit _ y (by decide))).trans (codes2 y (row2 H))

theorem o4 : out0_4 x w y H = prodY (scale (mag (row0 H) c8)) (scale (mag (row1 H) c8)) (xq x H) (wq w H) := by
  unfold out0_4
  rw [pay18, pay19, scale0, scale1]
  exact View.canon_cons_unit_lit _ _ _ (by decide)
theorem o5 : out0_5 x w y H = prodDx (scale (mag (row1 H) c8)) (scale (mag (row2 H) c9)) (wq w H) (yq y H) := by
  unfold out0_5
  rw [pay19, pay20, scale1, scale2]
  exact View.canon_cons_unit_lit _ _ _ (by decide)
theorem o6 : out0_6 x w y H = prodDw (scale (mag (row0 H) c8)) (scale (mag (row2 H) c9)) (xq x H) (yq y H) := by
  unfold out0_6
  rw [pay18, pay20, scale0, scale2]
  exact View.canon_cons_unit_lit _ _ _ (by decide)
theorem o7 : out0_7 x w y H = xq x H := (View.canon_cons_unit_lit _ _ _ (by decide)).trans (pay18 x w y H)
theorem o9 : out0_9 x w y H = wq w H := (View.canon_cons_unit_lit _ _ _ (by decide)).trans (pay19 x w y H)
theorem o11 : out0_11 x w y H = yq y H := (View.canon_cons_unit_lit _ _ _ (by decide)).trans (pay20 x w y H)
theorem o8 : out0_8 x w y H = fun _ => scale (mag (row0 H) c8) :=
  (View.canon_cons_unit_lit _ _ _ (by decide)).trans (funext fun _ => scale0 (row0 H))
theorem o10 : out0_10 x w y H = fun _ => scale (mag (row1 H) c8) :=
  (View.canon_cons_unit_lit _ _ _ (by decide)).trans (funext fun _ => scale1 (row1 H))
theorem o12 : out0_12 x w y H = fun _ => scale (mag (row2 H) c9) :=
  (View.canon_cons_unit_lit _ _ _ (by decide)).trans (funext fun _ => scale2 (row2 H))

end Cert.ReferenceIdeal.Value

end
-- ==== Proof.RefRun.lean ====
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

set_option maxRecDepth 65536

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v2_0` (window 4's): not opened here. -/
def reg_main_v2_0 (c : Dev nD) : Buf (Elt F) ((c.tc : Thread nD τ).loc main_v2_0) := (Gen.dats m 0 c).arrAt 4 cfg0.N
/-- What the kernel region leaves in its result array `main_v2_1` (window 5's): not opened here. -/
def reg_main_v2_1 (c : Dev nD) : Buf (Elt F) ((c.tc : Thread nD τ).loc main_v2_1) := (Gen.dats m 0 c).arrAt 5 cfg0.N
/-- What the kernel region leaves in its result array `main_v2_2` (window 6's): not opened here. -/
def reg_main_v2_2 (c : Dev nD) : Buf (Elt F) ((c.tc : Thread nD τ).loc main_v2_2) := (Gen.dats m 0 c).arrAt 6 cfg0.N
/-- What the kernel region leaves in its result array `main_v2_3` (window 7's): not opened here. -/
def reg_main_v2_3 (c : Dev nD) : Buf (Elt F) ((c.tc : Thread nD τ).loc main_v2_3) := (Gen.dats m 0 c).arrAt 7 cfg0.N
/-- What the kernel region leaves in its result array `main_v2_4` (window 8's): not opened here. -/
def reg_main_v2_4 (c : Dev nD) : Buf (Elt F) ((c.tc : Thread nD τ).loc main_v2_4) := (Gen.dats m 0 c).arrAt 8 cfg0.N
/-- What the kernel region leaves in its result array `main_v2_5` (window 9's): not opened here. -/
def reg_main_v2_5 (c : Dev nD) : Buf (Elt F) ((c.tc : Thread nD τ).loc main_v2_5) := (Gen.dats m 0 c).arrAt 9 cfg0.N
/-- What the kernel region leaves in its result array `main_v2_6` (window 10's): not opened here. -/
def reg_main_v2_6 (c : Dev nD) : Buf (Elt F) ((c.tc : Thread nD τ).loc main_v2_6) := (Gen.dats m 0 c).arrAt 10 cfg0.N
/-- What the kernel region leaves in its result array `main_v2_7` (window 11's): not opened here. -/
def reg_main_v2_7 (c : Dev nD) : Buf (Elt F) ((c.tc : Thread nD τ).loc main_v2_7) := (Gen.dats m 0 c).arrAt 11 cfg0.N
/-- What the kernel region leaves in its result array `main_v2_8` (window 12's): not opened here. -/
def reg_main_v2_8 (c : Dev nD) : Buf (Elt F) ((c.tc : Thread nD τ).loc main_v2_8) := (Gen.dats m 0 c).arrAt 12 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg1`, which an input window stages: as launched. -/
theorem exit_main_arg1 (c : Dev nD) : exitV m c (Proc.devRef .tc main_arg1) = m ((c.tc : Thread nD τ).loc main_arg1) :=
  ((Pipeline.withArrays_arr spec0 Gen.launch0.win.arr_inj c (Gen.V0 m c) _ 1).trans (((Gen.dats m 0 c).arrAt_in 1 rfl _).trans (Gen.A_eq m c 1))).trans (Gen.V_main_arg1 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
/-- The exit contents at argument `main_arg3`, which an input window stages: as launched. -/
theorem exit_main_arg3 (c : Dev nD) : exitV m c (Proc.devRef .tc main_arg3) = m ((c.tc : Thread nD τ).loc main_arg3) :=
  ((Pipeline.withArrays_arr spec0 Gen.launch0.win.arr_inj c (Gen.V0 m c) _ 3).trans (((Gen.dats m 0 c).arrAt_in 3 rfl _).trans (Gen.A_eq m c 3))).trans (Gen.V_main_arg3 m c)
/-- The exit contents at the region's result array `main_v2_0`. -/
theorem exit_main_v2_0 (c : Dev nD) : exitV m c (Proc.devRef .tc main_v2_0) = reg_main_v2_0 m c :=
  Pipeline.withArrays_arr spec0 Gen.launch0.win.arr_inj c (Gen.V0 m c) _ 4
/-- The exit contents at the region's result array `main_v2_1`. -/
theorem exit_main_v2_1 (c : Dev nD) : exitV m c (Proc.devRef .tc main_v2_1) = reg_main_v2_1 m c :=
  Pipeline.withArrays_arr spec0 Gen.launch0.win.arr_inj c (Gen.V0 m c) _ 5
/-- The exit contents at the region's result array `main_v2_3`. -/
theorem exit_main_v2_3 (c : Dev nD) : exitV m c (Proc.devRef .tc main_v2_3) = reg_main_v2_3 m c :=
  Pipeline.withArrays_arr spec0 Gen.launch0.win.arr_inj c (Gen.V0 m c) _ 7
/-- The exit contents at the region's result array `main_v2_4`. -/
theorem exit_main_v2_4 (c : Dev nD) : exitV m c (Proc.devRef .tc main_v2_4) = reg_main_v2_4 m c :=
  Pipeline.withArrays_arr spec0 Gen.launch0.win.arr_inj c (Gen.V0 m c) _ 8
/-- The exit contents at the region's result array `main_v2_6`. -/
theorem exit_main_v2_6 (c : Dev nD) : exitV m c (Proc.devRef .tc main_v2_6) = reg_main_v2_6 m c :=
  Pipeline.withArrays_arr spec0 Gen.launch0.win.arr_inj c (Gen.V0 m c) _ 10
/-- The exit contents at the region's result array `main_v2_7`. -/
theorem exit_main_v2_7 (c : Dev nD) : exitV m c (Proc.devRef .tc main_v2_7) = reg_main_v2_7 m c :=
  Pipeline.withArrays_arr spec0 Gen.launch0.win.arr_inj c (Gen.V0 m c) _ 11
/-- The exit contents at the region's result array `main_v2_8`. -/
theorem exit_main_v2_8 (c : Dev nD) : exitV m c (Proc.devRef .tc main_v2_8) = reg_main_v2_8 m c :=
  Pipeline.withArrays_arr spec0 Gen.launch0.win.arr_inj c (Gen.V0 m c) _ 12
/-- The exit contents at the region's result array `main_v2_2`. -/
theorem exit_main_v2_2 (c : Dev nD) : exitV m c (Proc.devRef .tc main_v2_2) = reg_main_v2_2 m c :=
  Pipeline.withArrays_arr spec0 Gen.launch0.win.arr_inj c (Gen.V0 m c) _ 6
/-- The exit contents at the region's result array `main_v2_5`. -/
theorem exit_main_v2_5 (c : Dev nD) : exitV m c (Proc.devRef .tc main_v2_5) = reg_main_v2_5 m c :=
  Pipeline.withArrays_arr spec0 Gen.launch0.win.arr_inj c (Gen.V0 m c) _ 9

set_option maxHeartbeats 2000000 in
/-- The later operations from any contents `V0`, read at result `main_v19`. -/
theorem tail_main_v19 (V0 : Valuation τ sig (Elt F)) :
    after (List.flatten [Gen.hostOps1]) V0 (Proc.devRef .tc main_v19) = shapeCast _ (V0 (Proc.devRef .tc main_v2_0)) shapeCasts_S3072x9216_S3x1024x9216 := by
  simp only [Gen.hostOps1, List.flatten_cons, List.flatten_nil, List.append_nil, List.cons_append, List.nil_append]
  after_results <;> rfl
/-- Result `main_v19` after the later operations from the region's exit contents. -/
theorem fin_main_v19 (c : Dev nD) :
    Pipeline.afterTail₀ cfgs (Gen.dats m) 0 (Gen.V0 m) [Gen.hostOps1] c main_v19 = shapeCast _ (reg_main_v2_0 m c) shapeCasts_S3072x9216_S3x1024x9216 :=
  (tail_main_v19 (exitV m c)).trans (by rw [exit_main_v2_0])

set_option maxHeartbeats 2000000 in
/-- The later operations from any contents `V0`, read at result `main_v20`. -/
theorem tail_main_v20 (V0 : Valuation τ sig (Elt F)) :
    after (List.flatten [Gen.hostOps1]) V0 (Proc.devRef .tc main_v20) = shapeCast _ (V0 (Proc.devRef .tc main_v2_1)) shapeCasts_S3072x7168_S3x1024x7168 := by
  simp only [Gen.hostOps1, List.flatten_cons, List.flatten_nil, List.append_nil, List.cons_append, List.nil_append]
  after_results <;> rfl
/-- Result `main_v20` after the later operations from the region's exit contents. -/
theorem fin_main_v20 (c : Dev nD) :
    Pipeline.afterTail₀ cfgs (Gen.dats m) 0 (Gen.V0 m) [Gen.hostOps1] c main_v20 = shapeCast _ (reg_main_v2_1 m c) shapeCasts_S3072x7168_S3x1024x7168 :=
  (tail_main_v20 (exitV m c)).trans (by rw [exit_main_v2_1])

set_option maxHeartbeats 2000000 in
/-- The later operations from any contents `V0`, read at result `main_v21`. -/
theorem tail_main_v21 (V0 : Valuation τ sig (Elt F)) :
    after (List.flatten [Gen.hostOps1]) V0 (Proc.devRef .tc main_v21) = shapeCast _ (V0 (Proc.devRef .tc main_v2_3)) shapeCasts_S3072x7168_S3x1024x7168 := by
  simp only [Gen.hostOps1, List.flatten_cons, List.flatten_nil, List.append_nil, List.cons_append, List.nil_append]
  after_results <;> rfl
/-- Result `main_v21` after the later operations from the region's exit contents. -/
theorem fin_main_v21 (c : Dev nD) :
    Pipeline.afterTail₀ cfgs (Gen.dats m) 0 (Gen.V0 m) [Gen.hostOps1] c main_v21 = shapeCast _ (reg_main_v2_3 m c) shapeCasts_S3072x7168_S3x1024x7168 :=
  (tail_main_v21 (exitV m c)).trans (by rw [exit_main_v2_3])

set_option maxHeartbeats 2000000 in
/-- The later operations from any contents `V0`, read at result `main_v22`. -/
theorem tail_main_v22 (V0 : Valuation τ sig (Elt F)) :
    after (List.flatten [Gen.hostOps1]) V0 (Proc.devRef .tc main_v22) = shapeCast _ (V0 (Proc.devRef .tc main_v2_4)) shapeCasts_S1x1_S_ := by
  simp only [Gen.hostOps1, List.flatten_cons, List.flatten_nil, List.append_nil, List.cons_append, List.nil_append]
  after_results <;> rfl
/-- Result `main_v22` after the later operations from the region's exit contents. -/
theorem fin_main_v22 (c : Dev nD) :
    Pipeline.afterTail₀ cfgs (Gen.dats m) 0 (Gen.V0 m) [Gen.hostOps1] c main_v22 = shapeCast _ (reg_main_v2_4 m c) shapeCasts_S1x1_S_ :=
  (tail_main_v22 (exitV m c)).trans (by rw [exit_main_v2_4])

set_option maxHeartbeats 2000000 in
/-- The later operations from any contents `V0`, read at result `main_v23`. -/
theorem tail_main_v23 (V0 : Valuation τ sig (Elt F)) :
    after (List.flatten [Gen.hostOps1]) V0 (Proc.devRef .tc main_v23) = shapeCast _ (V0 (Proc.devRef .tc main_v2_6)) shapeCasts_S1x1_S_ := by
  simp only [Gen.hostOps1, List.flatten_cons, List.flatten_nil, List.append_nil, List.cons_append, List.nil_append]
  after_results <;> rfl
/-- Result `main_v23` after the later operations from the region's exit contents. -/
theorem fin_main_v23 (c : Dev nD) :
    Pipeline.afterTail₀ cfgs (Gen.dats m) 0 (Gen.V0 m) [Gen.hostOps1] c main_v23 = shapeCast _ (reg_main_v2_6 m c) shapeCasts_S1x1_S_ :=
  (tail_main_v23 (exitV m c)).trans (by rw [exit_main_v2_6])

set_option maxHeartbeats 2000000 in
/-- The later operations from any contents `V0`, read at result `main_v24`. -/
theorem tail_main_v24 (V0 : Valuation τ sig (Elt F)) :
    after (List.flatten [Gen.hostOps1]) V0 (Proc.devRef .tc main_v24) = shapeCast _ (V0 (Proc.devRef .tc main_v2_7)) shapeCasts_S3072x9216_S3x1024x9216 := by
  simp only [Gen.hostOps1, List.flatten_cons, List.flatten_nil, List.append_nil, List.cons_append, List.nil_append]
  after_results <;> rfl
/-- Result `main_v24` after the later operations from the region's exit contents. -/
theorem fin_main_v24 (c : Dev nD) :
    Pipeline.afterTail₀ cfgs (Gen.dats m) 0 (Gen.V0 m) [Gen.hostOps1] c main_v24 = shapeCast _ (reg_main_v2_7 m c) shapeCasts_S3072x9216_S3x1024x9216 :=
  (tail_main_v24 (exitV m c)).trans (by rw [exit_main_v2_7])

set_option maxHeartbeats 2000000 in
/-- The later operations from any contents `V0`, read at result `main_v25`. -/
theorem tail_main_v25 (V0 : Valuation τ sig (Elt F)) :
    after (List.flatten [Gen.hostOps1]) V0 (Proc.devRef .tc main_v25) = shapeCast _ (V0 (Proc.devRef .tc main_v2_8)) shapeCasts_S1x1_S_ := by
  simp only [Gen.hostOps1, List.flatten_cons, List.flatten_nil, List.append_nil, List.cons_append, List.nil_append]
  after_results <;> rfl
/-- Result `main_v25` after the later operations from the region's exit contents. -/
theorem fin_main_v25 (c : Dev nD) :
    Pipeline.afterTail₀ cfgs (Gen.dats m) 0 (Gen.V0 m) [Gen.hostOps1] c main_v25 = shapeCast _ (reg_main_v2_8 m c) shapeCasts_S1x1_S_ :=
  (tail_main_v25 (exitV m c)).trans (by rw [exit_main_v2_8])

set_option maxHeartbeats 2000000 in
/-- The later operations from any contents `V0`, read at result `main_v18`. -/
theorem tail_main_v18 (V0 : Valuation τ sig (Elt F)) :
    after (List.flatten [Gen.hostOps1]) V0 (Proc.devRef .tc main_v18) = concatenate S3x16 1 [⟨S3x1, (broadcastInDim S3x1 ![0] bcast_S3_S3x1_0 ((concatenate S3 0 [⟨S1, ((broadcastInDim S1 ![] bcast_S_S1 (extf .f32 (Host.reduce FloatOps.maximumf (Host.absf (V0 (Proc.devRef .tc main_arg0))) (constant S_ .bf16 0xFF80#16) reducesTo_S3x1024x7168_S_d0_1_2 h_S_) bitsLt_bf16_f32)) : (⟨S1, .f32⟩ : BufTy).Contents (Elt F))⟩, ⟨S1, ((broadcastInDim S1 ![] bcast_S_S1 (extf .f32 (Host.reduce FloatOps.maximumf (Host.absf (V0 (Proc.devRef .tc main_arg1))) (constant S_ .bf16 0xFF80#16) reducesTo_S9216x7168_S_d0_1 h_S_) bitsLt_bf16_f32)) : (⟨S1, .f32⟩ : BufTy).Contents (Elt F))⟩, ⟨S1, ((broadcastInDim S1 ![] bcast_S_S1 (extf .f32 (Host.reduce FloatOps.maximumf (Host.absf (V0 (Proc.devRef .tc main_arg2))) (constant S_ .bf16 0xFF80#16) reducesTo_S3x1024x9216_S_d0_1_2 h_S_) bitsLt_bf16_f32)) : (⟨S1, .f32⟩ : BufTy).Contents (Elt F))⟩] concatenates_S1_S1_S1_S3_d0 : (⟨S3, .f32⟩ : BufTy).Contents (Elt F))))⟩, ⟨S3x15, (extractStridedSlice S3x15 ![0, 0] (V0 (Proc.devRef .tc main_arg3)) slices_S3x16_S3x15_0_0)⟩] concatenates_S3x1_S3x15_S3x16_d1 := by
  simp only [Gen.hostOps1, List.flatten_cons, List.flatten_nil, List.append_nil, List.cons_append, List.nil_append]
  after_results
  dsimp only [Matrix.cons_val_zero, Matrix.cons_val_one, Matrix.cons_val]
  repeat (first
    | rw [nullary_result] | rw [unary_result] | rw [binary_result]
    | (rw [nullary_result_ne]; rotate_left; decide)
    | (rw [unary_result_ne]; rotate_left; decide)
    | (rw [binary_result_ne]; rotate_left; decide))
  all_goals rfl
/-- Result `main_v18` after the later operations from the region's exit contents. -/
theorem fin_main_v18 (c : Dev nD) :
    Pipeline.afterTail₀ cfgs (Gen.dats m) 0 (Gen.V0 m) [Gen.hostOps1] c main_v18 = concatenate S3x16 1 [⟨S3x1, (broadcastInDim S3x1 ![0] bcast_S3_S3x1_0 ((concatenate S3 0 [⟨S1, ((broadcastInDim S1 ![] bcast_S_S1 (extf .f32 (Host.reduce FloatOps.maximumf (Host.absf (m ((c.tc : Thread nD τ).loc main_arg0))) (constant S_ .bf16 0xFF80#16) reducesTo_S3x1024x7168_S_d0_1_2 h_S_) bitsLt_bf16_f32)) : (⟨S1, .f32⟩ : BufTy).Contents (Elt F))⟩, ⟨S1, ((broadcastInDim S1 ![] bcast_S_S1 (extf .f32 (Host.reduce FloatOps.maximumf (Host.absf (m ((c.tc : Thread nD τ).loc main_arg1))) (constant S_ .bf16 0xFF80#16) reducesTo_S9216x7168_S_d0_1 h_S_) bitsLt_bf16_f32)) : (⟨S1, .f32⟩ : BufTy).Contents (Elt F))⟩, ⟨S1, ((broadcastInDim S1 ![] bcast_S_S1 (extf .f32 (Host.reduce FloatOps.maximumf (Host.absf (m ((c.tc : Thread nD τ).loc main_arg2))) (constant S_ .bf16 0xFF80#16) reducesTo_S3x1024x9216_S_d0_1_2 h_S_) bitsLt_bf16_f32)) : (⟨S1, .f32⟩ : BufTy).Contents (Elt F))⟩] concatenates_S1_S1_S1_S3_d0 : (⟨S3, .f32⟩ : BufTy).Contents (Elt F))))⟩, ⟨S3x15, (extractStridedSlice S3x15 ![0, 0] (m ((c.tc : Thread nD τ).loc main_arg3)) slices_S3x16_S3x15_0_0)⟩] concatenates_S3x1_S3x15_S3x16_d1 :=
  (tail_main_v18 (exitV m c)).trans (by rw [exit_main_arg0, exit_main_arg1, exit_main_arg2, exit_main_arg3])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v19) = shapeCast _ (reg_main_v2_0 m c) shapeCasts_S3072x9216_S3x1024x9216
      ∧ r.2.mem ((c.tc : Thread nD τ).loc main_v20) = shapeCast _ (reg_main_v2_1 m c) shapeCasts_S3072x7168_S3x1024x7168
      ∧ r.2.mem ((c.tc : Thread nD τ).loc main_v2_2) = reg_main_v2_2 m c
      ∧ r.2.mem ((c.tc : Thread nD τ).loc main_v21) = shapeCast _ (reg_main_v2_3 m c) shapeCasts_S3072x7168_S3x1024x7168
      ∧ r.2.mem ((c.tc : Thread nD τ).loc main_v22) = shapeCast _ (reg_main_v2_4 m c) shapeCasts_S1x1_S_
      ∧ r.2.mem ((c.tc : Thread nD τ).loc main_v2_5) = reg_main_v2_5 m c
      ∧ r.2.mem ((c.tc : Thread nD τ).loc main_v23) = shapeCast _ (reg_main_v2_6 m c) shapeCasts_S1x1_S_
      ∧ r.2.mem ((c.tc : Thread nD τ).loc main_v24) = shapeCast _ (reg_main_v2_7 m c) shapeCasts_S3072x9216_S3x1024x9216
      ∧ r.2.mem ((c.tc : Thread nD τ).loc main_v25) = shapeCast _ (reg_main_v2_8 m c) shapeCasts_S1x1_S_
      ∧ r.2.mem ((c.tc : Thread nD τ).loc main_v18) = concatenate S3x16 1 [⟨S3x1, (broadcastInDim S3x1 ![0] bcast_S3_S3x1_0 ((concatenate S3 0 [⟨S1, ((broadcastInDim S1 ![] bcast_S_S1 (extf .f32 (Host.reduce FloatOps.maximumf (Host.absf (m ((c.tc : Thread nD τ).loc main_arg0))) (constant S_ .bf16 0xFF80#16) reducesTo_S3x1024x7168_S_d0_1_2 h_S_) bitsLt_bf16_f32)) : (⟨S1, .f32⟩ : BufTy).Contents (Elt F))⟩, ⟨S1, ((broadcastInDim S1 ![] bcast_S_S1 (extf .f32 (Host.reduce FloatOps.maximumf (Host.absf (m ((c.tc : Thread nD τ).loc main_arg1))) (constant S_ .bf16 0xFF80#16) reducesTo_S9216x7168_S_d0_1 h_S_) bitsLt_bf16_f32)) : (⟨S1, .f32⟩ : BufTy).Contents (Elt F))⟩, ⟨S1, ((broadcastInDim S1 ![] bcast_S_S1 (extf .f32 (Host.reduce FloatOps.maximumf (Host.absf (m ((c.tc : Thread nD τ).loc main_arg2))) (constant S_ .bf16 0xFF80#16) reducesTo_S3x1024x9216_S_d0_1_2 h_S_) bitsLt_bf16_f32)) : (⟨S1, .f32⟩ : BufTy).Contents (Elt F))⟩] concatenates_S1_S1_S1_S3_d0 : (⟨S3, .f32⟩ : BufTy).Contents (Elt F))))⟩, ⟨S3x15, (extractStridedSlice S3x15 ![0, 0] (m ((c.tc : Thread nD τ).loc main_arg3)) slices_S3x16_S3x15_0_0)⟩] concatenates_S3x1_S3x15_S3x16_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v19 (Pipeline.mem_restRefs_of main_v19 (by decide) (by decide))).trans (fin_main_v19 m c),
      ((h c).2 main_v20 (Pipeline.mem_restRefs_of main_v20 (by decide) (by decide))).trans (fin_main_v20 m c),
      ((h c).1 6).trans (show _ = reg_main_v2_2 m c from rfl),
      ((h c).2 main_v21 (Pipeline.mem_restRefs_of main_v21 (by decide) (by decide))).trans (fin_main_v21 m c),
      ((h c).2 main_v22 (Pipeline.mem_restRefs_of main_v22 (by decide) (by decide))).trans (fin_main_v22 m c),
      ((h c).1 9).trans (show _ = reg_main_v2_5 m c from rfl),
      ((h c).2 main_v23 (Pipeline.mem_restRefs_of main_v23 (by decide) (by decide))).trans (fin_main_v23 m c),
      ((h c).2 main_v24 (Pipeline.mem_restRefs_of main_v24 (by decide) (by decide))).trans (fin_main_v24 m c),
      ((h c).2 main_v25 (Pipeline.mem_restRefs_of main_v25 (by decide) (by decide))).trans (fin_main_v25 m c),
      ((h c).2 main_v18 (Pipeline.mem_restRefs_of main_v18 (by decide) (by decide))).trans (fin_main_v18 m c),
      ((h c).2 main_arg0 (Pipeline.mem_restRefs_of main_arg0 (by decide) (by decide))).trans (Gen.W_main_arg0 m (Gen.dats m) c),
      ((h c).1 1).trans (((Gen.dats m 0 c).arrAt_in 1 rfl _).trans ((Gen.A_eq m c 1).trans (Gen.V_main_arg1 m c))),
      ((h c).2 main_arg2 (Pipeline.mem_restRefs_of main_arg2 (by decide) (by decide))).trans (Gen.W_main_arg2 m (Gen.dats m) c),
      ((h c).1 3).trans (((Gen.dats m 0 c).arrAt_in 3 rfl _).trans ((Gen.A_eq m c 3).trans (Gen.V_main_arg3 m c)))⟩) (Gen.run_main m ρ)

end Cert.ReferenceIdeal.Value

end
-- ==== Proof.Value.RefArr.lean ====
/- What the reference's kernel leaves in each of its result arrays. -/
module

public import proofs.«01_k».proof.Proof.Value.RefScal
public import proofs.«01_k».proof.Proof.RefRun
public import Idealize.ShloMosaic.Lib.Pipeline.ValueKit.Geometry

@[expose] public section

set_option maxRecDepth 16384

noncomputable section

namespace Cert.ReferenceIdeal.Value

open Cert.ReferenceIdeal Cert.ReferenceIdeal.Gen Cert.Scale
open Idealize.ShloMosaic Idealize.ShloMosaic.TcCoe Idealize.ShloMosaic.StableHlo
open Idealize.ShloMosaic.Pipeline (Dat Cfg Window)
open Cert.KernelIdeal.Value (quant8 quant5 c8 c9 row0 row1 row2 idx1 prodY prodDx prodDw)

variable (m : (ℓ : Loc nD τ sig) → Buf (Elt Ideal) ℓ) (c : Dev nD)

/-- The activations and the gradient, with their first two axes made one; the weights; the history. -/
def X : Vec Ideal S3072x7168 .bf16 := shapeCast S3072x7168 (m ((c.tc : Thread nD τ).loc main_arg0)) shapeCasts_S3x1024x7168_S3072x7168
def Wt : Vec Ideal S9216x7168 .bf16 := m ((c.tc : Thread nD τ).loc main_arg1)
def Y : Vec Ideal S3072x9216 .bf16 := shapeCast S3072x9216 (m ((c.tc : Thread nD τ).loc main_arg2)) shapeCasts_S3x1024x9216_S3072x9216
def H : Vec Ideal S3x16 .f32 := m ((c.tc : Thread nD τ).loc main_arg3)

theorem V_v0 : V m c main_v0 = X m c := by
  show after (List.flatten [hostOps0]) _ (Proc.devRef .tc main_v0) = _
  simp only [hostOps0, List.flatten_cons, List.flatten_nil, List.append_nil]
  after_results <;> rfl
theorem V_v1 : V m c main_v1 = Y m c := by
  show after (List.flatten [hostOps0]) _ (Proc.devRef .tc main_v1) = _
  simp only [hostOps0, List.flatten_cons, List.flatten_nil, List.append_nil]
  after_results <;> rfl

/-- Every window is its whole array, at index zero. -/
theorem index_zero : ∀ t : Fin grid0.N, (∀ a, win0_0.index t a = 0) ∧ (∀ a, win0_1.index t a = 0) ∧ (∀ a, win0_2.index t a = 0) ∧ (∀ a, win0_3.index t a = 0) ∧ (∀ a, win0_4.index t a = 0) ∧ (∀ a, win0_5.index t a = 0) ∧ (∀ a, win0_6.index t a = 0) ∧ (∀ a, win0_7.index t a = 0) ∧ (∀ a, win0_8.index t a = 0) ∧ (∀ a, win0_9.index t a = 0) ∧ (∀ a, win0_10.index t a = 0) ∧ (∀ a, win0_11.index t a = 0) ∧ (∀ a, win0_12.index t a = 0) := by decide +kernel

theorem emb0 (t : Fin cfg0.N) (j : S3072x7168.Idx) : (win0_0.blk t).view.emb j = j :=
  funext fun a => Fin.ext ((Window.rect_emb_val win0_0 t j a).trans (by rw [(index_zero t).1 a]; omega))
theorem emb1 (t : Fin cfg0.N) (j : S9216x7168.Idx) : (win0_1.blk t).view.emb j = j :=
  funext fun a => Fin.ext ((Window.rect_emb_val win0_1 t j a).trans (by rw [(index_zero t).2.1 a]; omega))
theorem emb2 (t : Fin cfg0.N) (j : S3072x9216.Idx) : (win0_2.blk t).view.emb j = j :=
  funext fun a => Fin.ext ((Window.rect_emb_val win0_2 t j a).trans (by rw [(index_zero t).2.2.1 a]; omega))
theorem emb3 (t : Fin cfg0.N) (j : S3x16.Idx) : (win0_3.blk t).view.emb j = j :=
  funext fun a => Fin.ext ((Window.rect_emb_val win0_3 t j a).trans (by rw [(index_zero t).2.2.2.1 a]; omega))
theorem emb4 (t : Fin cfg0.N) (j : S3072x9216.Idx) : (win0_4.blk t).view.emb j = j :=
  funext fun a => Fin.ext ((Window.rect_emb_val win0_4 t j a).trans (by rw [(index_zero t).2.2.2.2.1 a]; omega))
theorem emb5 (t : Fin cfg0.N) (j : S3072x7168.Idx) : (win0_5.blk t).view.emb j = j :=
  funext fun a => Fin.ext ((Window.rect_emb_val win0_5 t j a).trans (by rw [(index_zero t).2.2.2.2.2.1 a]; omega))
theorem emb6 (t : Fin cfg0.N) (j : S9216x7168.Idx) : (win0_6.blk t).view.emb j = j :=
  funext fun a => Fin.ext ((Window.rect_emb_val win0_6 t j a).trans (by rw [(index_zero t).2.2.2.2.2.2.1 a]; omega))
theorem emb7 (t : Fin cfg0.N) (j : S3072x7168.Idx) : (win0_7.blk t).view.emb j = j :=
  funext fun a => Fin.ext ((Window.rect_emb_val win0_7 t j a).trans (by rw [(index_zero t).2.2.2.2.2.2.2.1 a]; omega))
theorem emb8 (t : Fin cfg0.N) (j : S1x1.Idx) : (win0_8.blk t).view.emb j = j :=
  funext fun a => Fin.ext ((Window.rect_emb_val win0_8 t j a).trans (by rw [(index_zero t).2.2.2.2.2.2.2.2.1 a]; omega))
theorem emb9 (t : Fin cfg0.N) (j : S9216x7168.Idx) : (win0_9.blk t).view.emb j = j :=
  funext fun a => Fin.ext ((Window.rect_emb_val win0_9 t j a).trans (by rw [(index_zero t).2.2.2.2.2.2.2.2.2.1 a]; omega))
theorem emb10 (t : Fin cfg0.N) (j : S1x1.Idx) : (win0_10.blk t).view.emb j = j :=
  funext fun a => Fin.ext ((Window.rect_emb_val win0_10 t j a).trans (by rw [(index_zero t).2.2.2.2.2.2.2.2.2.2.1 a]; omega))
theorem emb11 (t : Fin cfg0.N) (j : S3072x9216.Idx) : (win0_11.blk t).view.emb j = j :=
  funext fun a => Fin.ext ((Window.rect_emb_val win0_11 t j a).trans (by rw [(index_zero t).2.2.2.2.2.2.2.2.2.2.2.1 a]; omega))
theorem emb12 (t : Fin cfg0.N) (j : S1x1.Idx) : (win0_12.blk t).view.emb j = j :=
  funext fun a => Fin.ext ((Window.rect_emb_val win0_12 t j a).trans (by rw [(index_zero t).2.2.2.2.2.2.2.2.2.2.2.2 a]; omega))

theorem iblk0 (t : Fin cfg0.N) : iblk m c 0 t = X m c :=
  (funext fun j => congrArg (V m c main_v0) (emb0 t j)).trans (V_v0 m c)
theorem iblk1 (t : Fin cfg0.N) : iblk m c 1 t = Wt m c :=
  (funext fun j => congrArg (V m c main_arg1) (emb1 t j)).trans (V_main_arg1 m c)
theorem iblk2 (t : Fin cfg0.N) : iblk m c 2 t = Y m c :=
  (funext fun j => congrArg (V m c main_v1) (emb2 t j)).trans (V_v1 m c)
theorem iblk3 (t : Fin cfg0.N) : iblk m c 3 t = H m c :=
  (funext fun j => congrArg (V m c main_arg3) (emb3 t j)).trans (V_main_arg3 m c)

theorem reg4 : reg_main_v2_0 m c = prodY (scale (mag (row0 (H m c)) c8)) (scale (mag (row1 (H m c)) c8)) (xq (X m c) (H m c)) (wq (Wt m c) (H m c)) := by
  refine (dats m 0 c).arrAt_eq_of_covers 4 _ (by decide +kernel) fun t _ y => ?_
  have e : (dats m 0 c).after 4 t = prodY (scale (mag (row0 (H m c)) c8)) (scale (mag (row1 (H m c)) c8)) (xq (X m c) (H m c)) (wq (Wt m c) (H m c)) := by rw [after0_4, iblk0, iblk1, iblk2, iblk3]; exact o4 _ _ _ _
  exact (congrFun e y).trans (congrArg (prodY (scale (mag (row0 (H m c)) c8)) (scale (mag (row1 (H m c)) c8)) (xq (X m c) (H m c)) (wq (Wt m c) (H m c))) (emb4 t y).symm)
theorem reg5 : reg_main_v2_1 m c = prodDx (scale (mag (row1 (H m c)) c8)) (scale (mag (row2 (H m c)) c9)) (wq (Wt m c) (H m c)) (yq (Y m c) (H m c)) := by
  refine (dats m 0 c).arrAt_eq_of_covers 5 _ (by decide +kernel) fun t _ y => ?_
  have e : (dats m 0 c).after 5 t = prodDx (scale (mag (row1 (H m c)) c8)) (scale (mag (row2 (H m c)) c9)) (wq (Wt m c) (H m c)) (yq (Y m c) (H m c)) := by rw [after0_5, iblk0, iblk1, iblk2, iblk3]; exact o5 _ _ _ _
  exact (congrFun e y).trans (congrArg (prodDx (scale (mag (row1 (H m c)) c8)) (scale (mag (row2 (H m c)) c9)) (wq (Wt m c) (H m c)) (yq (Y m c) (H m c))) (emb5 t y).symm)
theorem reg6 : reg_main_v2_2 m c = prodDw (scale (mag (row0 (H m c)) c8)) (scale (mag (row2 (H m c)) c9)) (xq (X m c) (H m c)) (yq (Y m c) (H m c)) := by
  refine (dats m 0 c).arrAt_eq_of_covers 6 _ (by decide +kernel) fun t _ y => ?_
  have e : (dats m 0 c).after 6 t = prodDw (scale (mag (row0 (H m c)) c8)) (scale (mag (row2 (H m c)) c9)) (xq (X m c) (H m c)) (yq (Y m c) (H m c)) := by rw [after0_6, iblk0, iblk1, iblk2, iblk3]; exact o6 _ _ _ _
  exact (congrFun e y).trans (congrArg (prodDw (scale (mag (row0 (H m c)) c8)) (scale (mag (row2 (H m c)) c9)) (xq (X m c) (H m c)) (yq (Y m c) (H m c))) (emb6 t y).symm)
theorem reg7 : reg_main_v2_3 m c = xq (X m c) (H m c) := by
  refine (dats m 0 c).arrAt_eq_of_covers 7 _ (by decide +kernel) fun t _ y => ?_
  have e : (dats m 0 c).after 7 t = xq (X m c) (H m c) := by rw [after0_7, iblk0, iblk1, iblk2, iblk3]; exact o7 _ _ _ _
  exact (congrFun e y).trans (congrArg (xq (X m c) (H m c)) (emb7 t y).symm)
theorem reg8 : reg_main_v2_4 m c = (fun _ => scale (mag (row0 (H m c)) c8) : Vec Ideal S1x1 .f32) := by
  refine (dats m 0 c).arrAt_eq_of_covers 8 _ (by decide +kernel) fun t _ y => ?_
  have e : (dats m 0 c).after 8 t = (fun _ => scale (mag (row0 (H m c)) c8) : Vec Ideal S1x1 .f32) := by rw [after0_8, iblk0, iblk1, iblk2, iblk3]; exact o8 _ _ _ _
  exact (congrFun e y).trans (congrArg (fun _ => scale (mag (row0 (H m c)) c8)) (emb8 t y).symm)
theorem reg9 : reg_main_v2_5 m c = wq (Wt m c) (H m c) := by
  refine (dats m 0 c).arrAt_eq_of_covers 9 _ (by decide +kernel) fun t _ y => ?_
  have e : (dats m 0 c).after 9 t = wq (Wt m c) (H m c) := by rw [after0_9, iblk0, iblk1, iblk2, iblk3]; exact o9 _ _ _ _
  exact (congrFun e y).trans (congrArg (wq (Wt m c) (H m c)) (emb9 t y).symm)
theorem reg10 : reg_main_v2_6 m c = (fun _ => scale (mag (row1 (H m c)) c8) : Vec Ideal S1x1 .f32) := by
  refine (dats m 0 c).arrAt_eq_of_covers 10 _ (by decide +kernel) fun t _ y => ?_
  have e : (dats m 0 c).after 10 t = (fun _ => scale (mag (row1 (H m c)) c8) : Vec Ideal S1x1 .f32) := by rw [after0_10, iblk0, iblk1, iblk2, iblk3]; exact o10 _ _ _ _
  exact (congrFun e y).trans (congrArg (fun _ => scale (mag (row1 (H m c)) c8)) (emb10 t y).symm)
theorem reg11 : reg_main_v2_7 m c = yq (Y m c) (H m c) := by
  refine (dats m 0 c).arrAt_eq_of_covers 11 _ (by decide +kernel) fun t _ y => ?_
  have e : (dats m 0 c).after 11 t = yq (Y m c) (H m c) := by rw [after0_11, iblk0, iblk1, iblk2, iblk3]; exact o11 _ _ _ _
  exact (congrFun e y).trans (congrArg (yq (Y m c) (H m c)) (emb11 t y).symm)
theorem reg12 : reg_main_v2_8 m c = (fun _ => scale (mag (row2 (H m c)) c9) : Vec Ideal S1x1 .f32) := by
  refine (dats m 0 c).arrAt_eq_of_covers 12 _ (by decide +kernel) fun t _ y => ?_
  have e : (dats m 0 c).after 12 t = (fun _ => scale (mag (row2 (H m c)) c9) : Vec Ideal S1x1 .f32) := by rw [after0_12, iblk0, iblk1, iblk2, iblk3]; exact o12 _ _ _ _
  exact (congrFun e y).trans (congrArg (fun _ => scale (mag (row2 (H m c)) c9)) (emb12 t y).symm)

end Cert.ReferenceIdeal.Value

end
-- ==== Proof.Value.RefHist.lean ====
/- The reference's next history over the extended reals: each row moved on by one column, its largest magnitude in front. -/
module

public import proofs.«01_k».proof.Proof.Value.Arr2
public import proofs.«01_k».proof.Proof.RefRun
public import Idealize.ShloMosaic.Lib.Pipeline.Value

@[expose] public section

set_option maxRecDepth 16384

noncomputable section

namespace Cert.ReferenceIdeal.Value

open Cert.ReferenceIdeal Cert.ReferenceIdeal.Gen Cert.Scale
open Idealize.ShloMosaic
open Cert.KernelIdeal.Value (AllLe AbsLe shifted shifted_head shifted_tail three ofBits_ninf16 idx1)

/-- A running maximum is at most a bound exactly when its start and every entry are. -/
theorem foldl_le {ι : Type} (f : ι → EReal) (B : EReal) : ∀ (l : List ι) (a : EReal), l.foldl (fun r i => max r (f i)) a ≤ B ↔ a ≤ B ∧ ∀ i ∈ l, f i ≤ B
  | [], a => by simp
  | i :: l, a => by rw [List.foldl_cons, foldl_le f B l, max_le_iff, List.forall_mem_cons, and_assoc]

/-- The one index of a scalar. -/
abbrev p : S_.Idx := fun a => a.elim0

/-- The largest magnitude of a whole array is at most a bound exactly when every magnitude is. -/
theorem hostMax_le {s : Shape} {axes : List (Fin s.rank)} (x : FVec Ideal s .bf16) (h : s.ReducesTo axes S_) (hu : 0 < S_.numel) (B : EReal) :
    ((Host.reduce (FloatOps.maximumf (F := Ideal) (φ := .bf16)) (Host.absf x) (constant (F := Ideal) S_ .bf16 0xFF80#16) h hu p : Ideal .bf16) : EReal) ≤ B ↔ AbsLe x B := by
  rw [Host.reduce_eq_foldl]
  refine (foldl_le (fun i => max (x i : EReal) (-(x i : EReal))) B _ _).trans ⟨fun hh i => hh.2 i ?_, fun hh => ⟨?_, fun i _ => hh i⟩⟩
  · rw [List.mem_filter]
    exact ⟨List.mem_map.mpr ⟨s.rowMajor i, List.mem_finRange _, Equiv.symm_apply_apply _ _⟩, decide_eq_true (funext fun a => a.elim0)⟩
  · exact le_of_eq_of_le ofBits_ninf16 bot_le

/-- A scalar as an array of one. -/
theorem one_at (a : FVec Ideal S_ .f32) (j : S1.Idx) : broadcastInDim S1 ![] bcast_S_S1 a j = a p := congrArg a (funext fun k => k.elim0)

/-- Three scalars in a row. -/
theorem row_at (a b d : FVec Ideal S1 .f32) (z : S1.Idx) (j : S3.Idx) :
    concatenate S3 0 [⟨S1, a⟩, ⟨S1, b⟩, ⟨S1, d⟩] concatenates_S1_S1_S1_S3_d0 j = three (a z) (b z) (d z) (j 0).val := by
  have hz : (z 0).val = 0 := by have : (z 0).val < 1 := (z 0).isLt; omega
  have off : ∀ b' : Fin 1, (b' : Fin S3.rank) ≠ 0 → (z b').val = (j b').val := fun b' hb => absurd (Subsingleton.elim b' 0) hb
  have hj : (j 0).val < 3 := (j 0).isLt
  have hc : (j 0).val = 0 ∨ (j 0).val = 1 ∨ (j 0).val = 2 := by omega
  rcases hc with h | h | h
  · exact (concatenate_apply_piece (t := S3) 0 [⟨S1, a⟩, ⟨S1, b⟩, ⟨S1, d⟩] concatenates_S1_S1_S1_S3_d0 j 0 (by simp) S1 a rfl rfl 0 rfl z off
      (by show 0 + (z 0).val = (j 0).val; omega)).trans (by rw [h]; rfl)
  · exact (concatenate_apply_piece (t := S3) 0 [⟨S1, a⟩, ⟨S1, b⟩, ⟨S1, d⟩] concatenates_S1_S1_S1_S3_d0 j 1 (by simp) S1 b rfl rfl 1 rfl z off
      (by show 1 + (z 0).val = (j 0).val; omega)).trans (by rw [h]; rfl)
  · exact (concatenate_apply_piece (t := S3) 0 [⟨S1, a⟩, ⟨S1, b⟩, ⟨S1, d⟩] concatenates_S1_S1_S1_S3_d0 j 2 (by simp) S1 d rfl rfl 2 rfl z off
      (by show 2 + (z 0).val = (j 0).val; omega)).trans (by rw [h]; rfl)

/-- A column of three in front of the history without its last column. -/
theorem hist_at (r : FVec Ideal S3 .f32) (f : ℕ → EReal) (hr : ∀ j : S3.Idx, r j = f (j 0).val) (H : Vec Ideal S3x16 .f32) :
    concatenate S3x16 1 [⟨S3x1, broadcastInDim S3x1 ![0] bcast_S3_S3x1_0 r⟩, ⟨S3x15, extractStridedSlice S3x15 ![0, 0] H slices_S3x16_S3x15_0_0⟩]
      concatenates_S3x1_S3x15_S3x16_d1 = shifted f H := by
  funext i
  have h0 : (i 0).val < 3 := (i 0).isLt
  have h1 : (i 1).val < 16 := (i 1).isLt
  by_cases h : (i 1).val = 0
  · refine (concatenate_pair_apply_left (t := S3x16) (s₁ := S3x1) (s₂ := S3x15) 1 _ _ concatenates_S3x1_S3x15_S3x16_d1 i rfl
      (ValueIdx.ix2 (⟨(i 0).val, h0⟩ : Fin 3) (0 : Fin 1)) (fun b => ?_)).trans ?_
    · match b with
      | ⟨0, _⟩ => rfl
      | ⟨1, _⟩ => exact h.symm
    · exact (hr _).trans (shifted_head f H i h).symm
  · refine (concatenate_pair_apply_right (t := S3x16) (s₁ := S3x1) (s₂ := S3x15) 1 _ _ concatenates_S3x1_S3x15_S3x16_d1 i rfl rfl
      (ValueIdx.ix2 (⟨(i 0).val, h0⟩ : Fin 3) (⟨(i 1).val - 1, by omega⟩ : Fin 15)) (fun b hb => ?_) ?_).trans ?_
    · match b with
      | ⟨0, _⟩ => rfl
      | ⟨1, _⟩ => exact absurd rfl hb
    · show (i 1).val - 1 + 1 = (i 1).val; omega
    · exact (shifted_tail f H i _ (by show 0 + (i 0).val = (i 0).val; omega) (by show (i 1).val = 0 + ((i 1).val - 1) + 1; omega)).symm

/-- The next history. -/
theorem hist_eq (a b d : FVec Ideal S_ .bf16) (H : Vec Ideal S3x16 .f32) :
    concatenate S3x16 1 [⟨S3x1, broadcastInDim S3x1 ![0] bcast_S3_S3x1_0 (concatenate S3 0 [⟨S1, broadcastInDim S1 ![] bcast_S_S1 (extf .f32 a bitsLt_bf16_f32)⟩,
        ⟨S1, broadcastInDim S1 ![] bcast_S_S1 (extf .f32 b bitsLt_bf16_f32)⟩, ⟨S1, broadcastInDim S1 ![] bcast_S_S1 (extf .f32 d bitsLt_bf16_f32)⟩]
        concatenates_S1_S1_S1_S3_d0)⟩, ⟨S3x15, extractStridedSlice S3x15 ![0, 0] H slices_S3x16_S3x15_0_0⟩]
      concatenates_S3x1_S3x15_S3x16_d1 = shifted (three (a p : EReal) (b p : EReal) (d p : EReal)) H :=
  hist_at _ _ (fun j => (row_at _ _ _ (ValueIdx.ix1 (0 : Fin 1)) j).trans (by rw [one_at, one_at, one_at]; rfl)) H

end Cert.ReferenceIdeal.Value

end
-- ==== Proof.Value.Equal.lean ====
/- From equal arguments the kernel and the reference leave equal results, over the extended reals. -/
module

public import proofs.«01_k».proof.Proof.Value.KTail
public import proofs.«01_k».proof.Proof.Value.RefArr
public import proofs.«01_k».proof.Proof.Value.RefHist
public import proofs.«01_k».proof.Defs

@[expose] public section

set_option maxRecDepth 16384

noncomputable section

namespace Cert.Equal

open Cert.KernelIdeal.Value Cert.KernelIdeal.Whole Cert.Scale
open Idealize.ShloMosaic Idealize.ShloMosaic.TcCoe Idealize.SL.Sem

/-- The predicate's one side condition. -/
theorem facts : Cert.Pre_finite_history.Facts := ⟨by decide⟩

/-- The precondition bounds every entry of the history. -/
theorem fin_of_pre (m : (ℓ : Loc Cert.KernelIdeal.nD Cert.KernelIdeal.τ Cert.KernelIdeal.sig) → Buf (Elt Ideal) ℓ)
    (h : Cert.Pre_KernelIdeal_finite_history (hPre_finite_history := facts) m) (c : Dev Cert.KernelIdeal.nD) : Fin48 (H m c) :=
  fun i => (ofBool_iff _).mp (congrFun (h c) i)

/-- Two numbers that keep the same bounds, when the bounds are never negative, are equal. -/
theorem max_eq {s t : Shape} (x : FVec Ideal s .bf16) (y : FVec Ideal t .bf16) (i : t.Idx) (a b : EReal) (e : ∀ B, AbsLe y B ↔ AbsLe x B)
    (ha : ∀ B, a ≤ B ↔ 0 ≤ B ∧ AbsLe y B) (hb : ∀ B, b ≤ B ↔ AbsLe x B) : a = b :=
  eq_of_forall_ge_iff fun B => ((ha B).trans ⟨fun h => h.2, fun h => ⟨(abs_nonneg' _).trans (h i), h⟩⟩).trans ((e B).trans (hb B).symm)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 in
theorem x_eq : Cert.ReferenceIdeal.Value.X m' c = X m c :=
  congrArg (shapeCast Cert.KernelIdeal.S3072x7168 · Cert.KernelIdeal.Gen.shapeCasts_S3x1024x7168_S3072x7168) h0
include h2 in
theorem y_eq : Cert.ReferenceIdeal.Value.Y m' c = Y m c :=
  congrArg (shapeCast Cert.KernelIdeal.S3072x9216 · Cert.KernelIdeal.Gen.shapeCasts_S3x1024x9216_S3072x9216) h2

include h1 in
theorem w_eq : Cert.ReferenceIdeal.Value.Wt m' c = Wt m c := h1
include h3 in
theorem h_eq : Cert.ReferenceIdeal.Value.H m' c = H m c := h3

open Cert.ReferenceIdeal.Value (reg4 reg5 reg6 reg7 reg8 reg9 reg10 reg11 reg12 hist_eq hostMax_le p)

/-- The next history. -/
theorem hist_same (a0 : FVec Ideal Cert.ReferenceIdeal.S3x1024x7168 .bf16) (a1 : FVec Ideal Cert.ReferenceIdeal.S9216x7168 .bf16)
    (a2 : FVec Ideal Cert.ReferenceIdeal.S3x1024x9216 .bf16)
    (e0 : X m c = shapeCast Cert.KernelIdeal.S3072x7168 a0 Cert.KernelIdeal.Gen.shapeCasts_S3x1024x7168_S3072x7168) (e1 : Wt m c = a1)
    (e2 : Y m c = shapeCast Cert.KernelIdeal.S3072x9216 a2 Cert.KernelIdeal.Gen.shapeCasts_S3x1024x9216_S3072x9216) :
    shifted (three
        ((Host.reduce (FloatOps.maximumf (F := Ideal) (φ := .bf16)) (Host.absf a0) (constant (F := Ideal) Cert.ReferenceIdeal.S_ .bf16 0xFF80#16)
          Cert.ReferenceIdeal.Gen.reducesTo_S3x1024x7168_S_d0_1_2 Cert.ReferenceIdeal.Gen.h_S_ p : Ideal .bf16) : EReal)
        ((Host.reduce (FloatOps.maximumf (F := Ideal) (φ := .bf16)) (Host.absf a1) (constant (F := Ideal) Cert.ReferenceIdeal.S_ .bf16 0xFF80#16)
          Cert.ReferenceIdeal.Gen.reducesTo_S9216x7168_S_d0_1 Cert.ReferenceIdeal.Gen.h_S_ p : Ideal .bf16) : EReal)
        ((Host.reduce (FloatOps.maximumf (F := Ideal) (φ := .bf16)) (Host.absf a2) (constant (F := Ideal) Cert.ReferenceIdeal.S_ .bf16 0xFF80#16)
          Cert.ReferenceIdeal.Gen.reducesTo_S3x1024x9216_S_d0_1_2 Cert.ReferenceIdeal.Gen.h_S_ p : Ideal .bf16) : EReal)) (H m c)
      = W5 m c (Proc.devRef .tc Cert.KernelIdeal.main_v4_1) := by
  obtain ⟨a, b, d, e, ha, hb, hd⟩ := w4_hist m c
  rw [e0] at ha
  rw [e1] at hb
  rw [e2] at hd
  have ea := max_eq a0 (shapeCast Cert.KernelIdeal.S3072x7168 a0 Cert.KernelIdeal.Gen.shapeCasts_S3x1024x7168_S3072x7168)
    (ValueIdx.ix2 (0 : Fin 3072) (0 : Fin 7168)) a _ (fun B => absLe_shapeCast _ _ B) ha
    (hostMax_le a0 Cert.ReferenceIdeal.Gen.reducesTo_S3x1024x7168_S_d0_1_2 Cert.ReferenceIdeal.Gen.h_S_)
  have eb := max_eq a1 a1 (ValueIdx.ix2 (0 : Fin 9216) (0 : Fin 7168)) b _ (fun B => Iff.rfl) hb
    (hostMax_le a1 Cert.ReferenceIdeal.Gen.reducesTo_S9216x7168_S_d0_1 Cert.ReferenceIdeal.Gen.h_S_)
  have ed := max_eq a2 (shapeCast Cert.KernelIdeal.S3072x9216 a2 Cert.KernelIdeal.Gen.shapeCasts_S3x1024x9216_S3072x9216)
    (ValueIdx.ix2 (0 : Fin 3072) (0 : Fin 9216)) d _ (fun B => absLe_shapeCast _ _ B) hd
    (hostMax_le a2 Cert.ReferenceIdeal.Gen.reducesTo_S3x1024x9216_S_d0_1_2 Cert.ReferenceIdeal.Gen.h_S_)
  rw [← ea, ← eb, ← ed]
  exact e.symm.trans (W5_keeps m c _ (by decide)).symm

section Regions
include h0 h1 h2 h3
variable (hH : Fin48 (H m c))
include hH

/-! Each result of the reference is the kernel's. -/

theorem out_y : shapeCast Cert.ReferenceIdeal.S3x1024x9216 (Cert.ReferenceIdeal.Value.reg_main_v2_0 m' c) Cert.ReferenceIdeal.Gen.shapeCasts_S3072x9216_S3x1024x9216
    = W5 m c (Proc.devRef .tc Cert.KernelIdeal.main_v5) := by
  rw [reg4, x_eq m m' c h0, h_eq m m' c h3, w_eq m m' c h1, w5_v5 m c hH]; rfl
theorem out_dx : shapeCast Cert.ReferenceIdeal.S3x1024x7168 (Cert.ReferenceIdeal.Value.reg_main_v2_1 m' c) Cert.ReferenceIdeal.Gen.shapeCasts_S3072x7168_S3x1024x7168
    = W5 m c (Proc.devRef .tc Cert.KernelIdeal.main_v6) := by
  rw [reg5, y_eq m m' c h2, h_eq m m' c h3, w_eq m m' c h1, w5_v6 m c hH]; rfl
theorem out_dw : Cert.ReferenceIdeal.Value.reg_main_v2_2 m' c = W5 m c (Proc.devRef .tc Cert.KernelIdeal.main_v3_1) := by
  rw [reg6, y_eq m m' c h2, h_eq m m' c h3, x_eq m m' c h0, w5_v3_1 m c hH]; rfl
theorem out_xq : shapeCast Cert.ReferenceIdeal.S3x1024x7168 (Cert.ReferenceIdeal.Value.reg_main_v2_3 m' c) Cert.ReferenceIdeal.Gen.shapeCasts_S3072x7168_S3x1024x7168
    = W5 m c (Proc.devRef .tc Cert.KernelIdeal.main_v7) := by
  rw [reg7, h_eq m m' c h3, x_eq m m' c h0, w5_v7 m c hH]; rfl
theorem out_sx : shapeCast Cert.ReferenceIdeal.S_ (Cert.ReferenceIdeal.Value.reg_main_v2_4 m' c) Cert.ReferenceIdeal.Gen.shapeCasts_S1x1_S_
    = W5 m c (Proc.devRef .tc Cert.KernelIdeal.main_v9) := by
  rw [reg8, h_eq m m' c h3, w5_v9 m c hH]; rfl
theorem out_wq : Cert.ReferenceIdeal.Value.reg_main_v2_5 m' c = W5 m c (Proc.devRef .tc Cert.KernelIdeal.main_v3_2) := by
  rw [reg9, h_eq m m' c h3, w_eq m m' c h1, w5_v3_2 m c hH]; rfl
theorem out_sw : shapeCast Cert.ReferenceIdeal.S_ (Cert.ReferenceIdeal.Value.reg_main_v2_6 m' c) Cert.ReferenceIdeal.Gen.shapeCasts_S1x1_S_
    = W5 m c (Proc.devRef .tc Cert.KernelIdeal.main_v11) := by
  rw [reg10, h_eq m m' c h3, w5_v11 m c hH]; rfl
theorem out_yq : shapeCast Cert.ReferenceIdeal.S3x1024x9216 (Cert.ReferenceIdeal.Value.reg_main_v2_7 m' c) Cert.ReferenceIdeal.Gen.shapeCasts_S3072x9216_S3x1024x9216
    = W5 m c (Proc.devRef .tc Cert.KernelIdeal.main_v12) := by
  rw [reg11, h_eq m m' c h3, y_eq m m' c h2, w5_v12 m c hH]; rfl
theorem out_sy : shapeCast Cert.ReferenceIdeal.S_ (Cert.ReferenceIdeal.Value.reg_main_v2_8 m' c) Cert.ReferenceIdeal.Gen.shapeCasts_S1x1_S_
    = W5 m c (Proc.devRef .tc Cert.KernelIdeal.main_v14) := by
  rw [reg12, h_eq m m' c h3, w5_v14 m c hH]; rfl

end Regions

end Cert.Equal

end
-- ==== Proof.lean ====
module

public import proofs.«01_k».proof.Defs
public import proofs.«01_k».proof.Proof.Kernel.Frame
public import proofs.«01_k».proof.Proof.KernelIdeal.Frame
public import proofs.«01_k».proof.Proof.Gen.ReferenceIdeal.Frame
public import proofs.«01_k».proof.Proof.Value.Equal
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal.Whole (W5 W5_arg)

/-- A reference of the kernel's host program outside every scope. -/
theorem mem_uc (b : Ref Cert.KernelIdeal.sig .tc)
    (h : b ∈ [Cert.KernelIdeal.main_v5, Cert.KernelIdeal.main_v6, Cert.KernelIdeal.main_v3_1, Cert.KernelIdeal.main_v7, Cert.KernelIdeal.main_v9,
      Cert.KernelIdeal.main_v3_2, Cert.KernelIdeal.main_v11, Cert.KernelIdeal.main_v12, Cert.KernelIdeal.main_v14, Cert.KernelIdeal.main_v4_1,
      Cert.KernelIdeal.main_arg0, Cert.KernelIdeal.main_arg1, Cert.KernelIdeal.main_arg2, Cert.KernelIdeal.main_arg3]) :
    Proc.devRef .tc b ∈ Pipeline.ucRefs Cert.KernelIdeal.τ Cert.KernelIdeal.sig := by
  refine Finset.mem_filter.mpr ⟨StableHlo.devRef_mem_tcRefs b, ?_⟩
  simp only [List.mem_cons, List.not_mem_nil, or_false] at h
  rcases h with rfl | rfl | rfl | rfl | rfl | rfl | rfl | rfl | rfl | rfl | rfl | rfl | rfl | rfl <;> decide

/-- From equal arguments with a finite history the kernel and the reference leave equal results. -/
theorem algebraic : Cert.algebraic_KernelIdeal_ReferenceIdeal_pre_finite_history (hKernelIdeal := Cert.KernelIdeal.Gen.facts)
    (hReferenceIdeal := Cert.ReferenceIdeal.Gen.facts) (hPre_finite_history := Cert.Equal.facts) := by
  intro m g m' g' hpre hargs
  have hH := Cert.Equal.fin_of_pre m hpre
  refine ⟨fun c => W5 m c (Proc.devRef .tc Cert.KernelIdeal.main_v5), fun c => W5 m c (Proc.devRef .tc Cert.KernelIdeal.main_v6),
    fun c => W5 m c (Proc.devRef .tc Cert.KernelIdeal.main_v3_1), fun c => W5 m c (Proc.devRef .tc Cert.KernelIdeal.main_v7),
    fun c => W5 m c (Proc.devRef .tc Cert.KernelIdeal.main_v9), fun c => W5 m c (Proc.devRef .tc Cert.KernelIdeal.main_v3_2),
    fun c => W5 m c (Proc.devRef .tc Cert.KernelIdeal.main_v11), fun c => W5 m c (Proc.devRef .tc Cert.KernelIdeal.main_v12),
    fun c => W5 m c (Proc.devRef .tc Cert.KernelIdeal.main_v14), fun c => W5 m c (Proc.devRef .tc Cert.KernelIdeal.main_v4_1), ?_, ?_⟩
  · refine (θ_run _ _ _).mono (fun r h c => ?_) (Cert.KernelIdeal.Value.run_at m g)
    exact ⟨h c _ (mem_uc _ (by decide)), h c _ (mem_uc _ (by decide)), h c _ (mem_uc _ (by decide)), h c _ (mem_uc _ (by decide)),
      h c _ (mem_uc _ (by decide)), h c _ (mem_uc _ (by decide)), h c _ (mem_uc _ (by decide)), h c _ (mem_uc _ (by decide)),
      h c _ (mem_uc _ (by decide)), h c _ (mem_uc _ (by decide)),
      (h c _ (mem_uc _ (by decide))).trans (W5_arg m c _ (by decide)), (h c _ (mem_uc _ (by decide))).trans (W5_arg m c _ (by decide)),
      (h c _ (mem_uc _ (by decide))).trans (W5_arg m c _ (by decide)), (h c _ (mem_uc _ (by decide))).trans (W5_arg m c _ (by decide))⟩
  · refine (θ_run _ _ _).mono (fun r h c => ?_) (Cert.ReferenceIdeal.Value.run m' g')
    obtain ⟨a0, a1, a2, a3⟩ := hargs c
    obtain ⟨r0, r1, r2, r3, r4, r5, r6, r7, r8, r9, rest⟩ := h c
    refine ⟨r0.trans (Cert.Equal.out_y m m' c a0 a1 a2 a3 (hH c)), r1.trans (Cert.Equal.out_dx m m' c a0 a1 a2 a3 (hH c)),
      r2.trans (Cert.Equal.out_dw m m' c a0 a1 a2 a3 (hH c)), r3.trans (Cert.Equal.out_xq m m' c a0 a1 a2 a3 (hH c)),
      r4.trans (Cert.Equal.out_sx m m' c a0 a1 a2 a3 (hH c)), r5.trans (Cert.Equal.out_wq m m' c a0 a1 a2 a3 (hH c)),
      r6.trans (Cert.Equal.out_sw m m' c a0 a1 a2 a3 (hH c)), r7.trans (Cert.Equal.out_yq m m' c a0 a1 a2 a3 (hH c)),
      r8.trans (Cert.Equal.out_sy m m' c a0 a1 a2 a3 (hH c)), r9.trans ?_, rest⟩
    refine (Cert.ReferenceIdeal.Value.hist_eq _ _ _ _).trans (Eq.trans ?_ (Cert.Equal.hist_same m c
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (Cert.Equal.x_eq m m' c a0).symm (Cert.Equal.w_eq m m' c a1).symm (Cert.Equal.y_eq m m' c a2).symm))
    exact congrArg (Cert.KernelIdeal.Value.shifted _) (Cert.Equal.h_eq m m' c a3)

/-- The certificate: frames of the three programs, the idealisation with no rewrites, and the equality of the results. -/
theorem claim : Cert.Claim :=
  ⟨Cert.Kernel.Gen.facts, Cert.KernelIdeal.Gen.facts, Cert.ReferenceIdeal.Gen.facts, Cert.Equal.facts,
    fun m ρ _ => Cert.Kernel.Whole.frame m ρ,
    fun m ρ _ => Cert.KernelIdeal.Whole.frame m ρ,
    fun m ρ _ => Cert.KernelIdeal.Whole.frame m ρ,
    fun m ρ _ => Cert.ReferenceIdeal.Gen.frame m ρ,
    fun m ρ _ => Cert.ReferenceIdeal.Gen.frame m ρ,
    trivial, algebraic⟩

end Cert.Proof

end
